-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_values) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x8192x12 : Shape := ⟨3, ![4, 8192, 12]⟩
abbrev S8x12 : Shape := ⟨2, ![8, 12]⟩
abbrev S_ : Shape := ⟨0, ![]⟩

class Facts : Prop where
  bcast_S_S4x8192x12 : S_.BroadcastsInDim S4x8192x12 (![] : Fin 0 → Fin S4x8192x12.rank)
  reducesTo_S4x8192x12_S_d0_1_2 : S4x8192x12.ReducesTo [0, 1, 2] S_
  h_S_ : 0 < S_.numel
  bcast_S_S8x12 : S_.BroadcastsInDim S8x12 (![] : Fin 0 → Fin S8x12.rank)
  reducesTo_S8x12_S_d0_1 : S8x12.ReducesTo [0, 1] S_

variable [Facts]

def fn {F : FTy → Type} [FloatOps F] (main_arg0 : FVec F S4x8192x12 .f32) (main_arg1 : FVec F S8x12 .f32) : IVec S_ 1 :=
  let main_v0 : FVec F S4x8192x12 .f32 := Host.absf main_arg0
  let main_cst : FVec F S_ .f32 := constant S_ .f32 0x7F800000#32
  let main_v1 : FVec F S4x8192x12 .f32 := broadcastInDim S4x8192x12 ![] bcast_S_S4x8192x12 main_cst
  let main_v2 : IVec S4x8192x12 1 := cmpf .olt main_v0 main_v1
  let main_c : IVec S_ 1 := constantI S_ 1 1#1
  let main_v3 : IVec S_ 1 := (fun x v => Host.reduce IntOp.andi x v reducesTo_S4x8192x12_S_d0_1_2 h_S_) main_v2 main_c
  let main_v4 : FVec F S8x12 .f32 := Host.absf main_arg1
  let main_cst_0 : FVec F S_ .f32 := constant S_ .f32 0x7F800000#32
  let main_v5 : FVec F S8x12 .f32 := broadcastInDim S8x12 ![] bcast_S_S8x12 main_cst_0
  let main_v6 : IVec S8x12 1 := cmpf .olt main_v4 main_v5
  let main_c_1 : IVec S_ 1 := constantI S_ 1 1#1
  let main_v7 : IVec S_ 1 := (fun x v => Host.reduce IntOp.andi x v reducesTo_S8x12_S_d0_1 h_S_) main_v6 main_c_1
  let main_v8 : IVec S_ 1 := andi main_v3 main_v7
  main_v8
-- ==== Kernel.lean ====
abbrev S4x8192x12 : Shape := ⟨3, ![4, 8192, 12]⟩
abbrev S8x12 : Shape := ⟨2, ![8, 12]⟩
abbrev S32768x12 : Shape := ⟨2, ![32768, 12]⟩
abbrev S32x8x1024 : Shape := ⟨3, ![32, 8, 1024]⟩
abbrev S1024x12 : Shape := ⟨2, ![1024, 12]⟩
abbrev S1x8x1024 : Shape := ⟨3, ![1, 8, 1024]⟩
abbrev S8x1024 : Shape := ⟨2, ![8, 1024]⟩
abbrev S65536 : Shape := ⟨1, ![65536]⟩
abbrev S32x10x16 : Shape := ⟨3, ![32, 10, 16]⟩
abbrev S2048 : Shape := ⟨1, ![2048]⟩
abbrev S16 : Shape := ⟨1, ![16]⟩
abbrev S10x16 : Shape := ⟨2, ![10, 16]⟩
abbrev S_ : Shape := ⟨0, ![]⟩
abbrev S1x16 : Shape := ⟨2, ![1, 16]⟩
abbrev S1x10x16 : Shape := ⟨3, ![1, 10, 16]⟩
abbrev S1x1 : Shape := ⟨2, ![1, 1]⟩
abbrev S32x8x16 : Shape := ⟨3, ![32, 8, 16]⟩
abbrev S32x8 : Shape := ⟨2, ![32, 8]⟩
abbrev S32x1x16 : Shape := ⟨3, ![32, 1, 16]⟩
abbrev S32x16 : Shape := ⟨2, ![32, 16]⟩
abbrev S4x32 : Shape := ⟨2, ![4, 32]⟩
abbrev S4x8 : Shape := ⟨2, ![4, 8]⟩
abbrev S4x16 : Shape := ⟨2, ![4, 16]⟩
abbrev S4x4 : Shape := ⟨2, ![4, 4]⟩
abbrev S8x4 : Shape := ⟨2, ![8, 4]⟩
abbrev S1x4x4 : Shape := ⟨3, ![1, 4, 4]⟩
abbrev S1 : Shape := ⟨1, ![1]⟩
abbrev S1x1x1 : Shape := ⟨3, ![1, 1, 1]⟩
abbrev S32768x2 : Shape := ⟨2, ![32768, 2]⟩

abbrev nBuf : Table → Nat
  | .hbm => 13
  | .local .tc .vmem => 8
  | .local .scVector .vmem => 6
  | _ => 0

abbrev bufTy : (tb : Table) → Fin (nBuf tb) → BufTy
  | .hbm, ⟨0, _⟩ => ⟨S4x8192x12, .f32⟩
  | .hbm, ⟨1, _⟩ => ⟨S8x12, .f32⟩
  | .hbm, ⟨2, _⟩ => ⟨S32768x12, .f32⟩
  | .hbm, ⟨3, _⟩ => ⟨S32x8x1024, .f32⟩
  | .hbm, ⟨4, _⟩ => ⟨S65536, .i32⟩
  | .hbm, ⟨5, _⟩ => ⟨S65536, .f32⟩
  | .hbm, ⟨6, _⟩ => ⟨S32x10x16, .f32⟩
  | .hbm, ⟨7, _⟩ => ⟨S1x1, .f32⟩
  | .hbm, ⟨8, _⟩ => ⟨S1x1, .f32⟩
  | .hbm, ⟨9, _⟩ => ⟨S32768x2, .i32⟩
  | .hbm, ⟨10, _⟩ => ⟨S32768x2, .f32⟩
  | .hbm, ⟨11, _⟩ => ⟨S_, .f32⟩
  | .hbm, ⟨12, _⟩ => ⟨S_, .f32⟩
  | .local .tc .vmem, ⟨0, _⟩ => ⟨S8x12, .f32⟩
  | .local .tc .vmem, ⟨1, _⟩ => ⟨S1024x12, .f32⟩
  | .local .tc .vmem, ⟨2, _⟩ => ⟨S1024x12, .f32⟩
  | .local .tc .vmem, ⟨3, _⟩ => ⟨S1x8x1024, .f32⟩
  | .local .tc .vmem, ⟨4, _⟩ => ⟨S1x8x1024, .f32⟩
  | .local .tc .vmem, ⟨5, _⟩ => ⟨S32x10x16, .f32⟩
  | .local .tc .vmem, ⟨6, _⟩ => ⟨S1x1, .f32⟩
  | .local .tc .vmem, ⟨7, _⟩ => ⟨S1x1, .f32⟩
  | .local .scVector .vmem, ⟨0, _⟩ => ⟨S8x1024, .f32⟩
  | .local .scVector .vmem, ⟨1, _⟩ => ⟨S2048, .i32⟩
  | .local .scVector .vmem, ⟨2, _⟩ => ⟨S2048, .f32⟩
  | .local .scVector .vmem, ⟨3, _⟩ => ⟨S16, .f32⟩
  | .local .scVector .vmem, ⟨4, _⟩ => ⟨S16, .f32⟩
  | .local .scVector .vmem, ⟨5, _⟩ => ⟨S10x16, .f32⟩
  | _, _ => ⟨S4x8192x12, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v1_scv : Ref sig .scVector := ⟨.hbm, 3, rfl⟩
abbrev main_v2_0_scv : Ref sig .scVector := ⟨.hbm, 4, rfl⟩
abbrev main_v2_1_scv : Ref sig .scVector := ⟨.hbm, 5, rfl⟩
abbrev main_v2_2_scv : Ref sig .scVector := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc2_stg0_0 : Ref sig .tc := ⟨.vmem, 5, rfl⟩
abbrev cc2_stg1_0 : Ref sig .tc := ⟨.vmem, 6, rfl⟩
abbrev cc2_stg2_0 : Ref sig .tc := ⟨.vmem, 7, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc2_sem0_0 : DmaSem sig := 9
abbrev cc2_sem1_0 : DmaSem sig := 10
abbrev cc2_sem2_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_20_r0 : BitVec 32 := 0#32
  let c0_i32_21_r0 : BitVec 32 := 0#32
  ![v1.toNat, 0, 0]
@[reducible] def k1_t1_loop : Scf.Loop 32 :=
  let c0_i32 : BitVec 32 := 0#32
  let c64_i32 : BitVec 32 := 64#32
  let v8 : BitVec 32 := Scalar.addi c0_i32 c64_i32
  let c1_i32 : BitVec 32 := 1#32
  ⟨c0_i32, v8, c1_i32⟩
def k1_off2 (k1_t1 : Fin k1_t1_loop.trips) : Fin 2 → Nat :=
  let c0_i32_20 : BitVec 32 := 0#32
  let v35 : Index := Scalar.indexCast c0_i32_20
  let c0_i32 : BitVec 32 := 0#32
  let c1_i32 : BitVec 32 := 1#32
  let arg12 : BitVec 32 := Scf.iv c0_i32 c1_i32 k1_t1
  let c16_i32 : BitVec 32 := 16#32
  let v34 : BitVec 32 := Scalar.muli arg12 c16_i32
  let v36 : Index := Scalar.indexCast v34
  ![0, v36.toNat]
def k1_off3 (k1_t1 : Fin k1_t1_loop.trips) : Fin 2 → Nat :=
  let c1_i32_21 : BitVec 32 := 1#32
  let v38 : Index := Scalar.indexCast c1_i32_21
  let c0_i32 : BitVec 32 := 0#32
  let c1_i32 : BitVec 32 := 1#32
  let arg12 : BitVec 32 := Scf.iv c0_i32 c1_i32 k1_t1
  let c16_i32 : BitVec 32 := 16#32
  let v34 : BitVec 32 := Scalar.muli arg12 c16_i32
  let v39 : Index := Scalar.indexCast v34
  ![1, v39.toNat]
def k1_off4 (k1_t1 : Fin k1_t1_loop.trips) : Fin 2 → Nat :=
  let c2_i32_22 : BitVec 32 := 2#32
  let v41 : Index := Scalar.indexCast c2_i32_22
  let c0_i32 : BitVec 32 := 0#32
  let c1_i32 : BitVec 32 := 1#32
  let arg12 : BitVec 32 := Scf.iv c0_i32 c1_i32 k1_t1
  let c16_i32 : BitVec 32 := 16#32
  let v34 : BitVec 32 := Scalar.muli arg12 c16_i32
  let v42 : Index := Scalar.indexCast v34
  ![2, v42.toNat]
def k1_off5 (k1_t1 : Fin k1_t1_loop.trips) : Fin 2 → Nat :=
  let c3_i32_23 : BitVec 32 := 3#32
  let v44 : Index := Scalar.indexCast c3_i32_23
  let c0_i32 : BitVec 32 := 0#32
  let c1_i32 : BitVec 32 := 1#32
  let arg12 : BitVec 32 := Scf.iv c0_i32 c1_i32 k1_t1
  let c16_i32 : BitVec 32 := 16#32
  let v34 : BitVec 32 := Scalar.muli arg12 c16_i32
  let v45 : Index := Scalar.indexCast v34
  ![3, v45.toNat]
def k1_off6 (k1_t1 : Fin k1_t1_loop.trips) : Fin 2 → Nat :=
  let c4_i32_24 : BitVec 32 := 4#32
  let v47 : Index := Scalar.indexCast c4_i32_24
  let c0_i32 : BitVec 32 := 0#32
  let c1_i32 : BitVec 32 := 1#32
  let arg12 : BitVec 32 := Scf.iv c0_i32 c1_i32 k1_t1
  let c16_i32 : BitVec 32 := 16#32
  let v34 : BitVec 32 := Scalar.muli arg12 c16_i32
  let v48 : Index := Scalar.indexCast v34
  ![4, v48.toNat]
def k1_off7 (k1_t1 : Fin k1_t1_loop.trips) : Fin 2 → Nat :=
  let c5_i32_25 : BitVec 32 := 5#32
  let v50 : Index := Scalar.indexCast c5_i32_25
  let c0_i32 : BitVec 32 := 0#32
  let c1_i32 : BitVec 32 := 1#32
  let arg12 : BitVec 32 := Scf.iv c0_i32 c1_i32 k1_t1
  let c16_i32 : BitVec 32 := 16#32
  let v34 : BitVec 32 := Scalar.muli arg12 c16_i32
  let v51 : Index := Scalar.indexCast v34
  ![5, v51.toNat]
def k1_off8 (k1_t1 : Fin k1_t1_loop.trips) : Fin 2 → Nat :=
  let c6_i32_26 : BitVec 32 := 6#32
  let v53 : Index := Scalar.indexCast c6_i32_26
  let c0_i32 : BitVec 32 := 0#32
  let c1_i32 : BitVec 32 := 1#32
  let arg12 : BitVec 32 := Scf.iv c0_i32 c1_i32 k1_t1
  let c16_i32 : BitVec 32 := 16#32
  let v34 : BitVec 32 := Scalar.muli arg12 c16_i32
  let v54 : Index := Scalar.indexCast v34
  ![6, v54.toNat]
def k1_off9 (k1_t1 : Fin k1_t1_loop.trips) : Fin 2 → Nat :=
  let c7_i32_27 : BitVec 32 := 7#32
  let v56 : Index := Scalar.indexCast c7_i32_27
  let c0_i32 : BitVec 32 := 0#32
  let c1_i32 : BitVec 32 := 1#32
  let arg12 : BitVec 32 := Scf.iv c0_i32 c1_i32 k1_t1
  let c16_i32 : BitVec 32 := 16#32
  let v34 : BitVec 32 := Scalar.muli arg12 c16_i32
  let v57 : Index := Scalar.indexCast v34
  ![7, v57.toNat]

def k1_chk2 (v176 : IVec S16 32) : Prop :=
  (∀ a x, ((![v176] : Fin 1 → IVec S16 32) a x).toNat < S2048.size a)
theorem k1_idx2_inb : ∀ (v176 : IVec S16 32) (k1_hw2 : k1_chk2 v176), ∀ a x, ((![v176] : Fin 1 → IVec S16 32) a x).toNat < S2048.size a := fun v176 k1_hw2 => k1_hw2

def k1_chk1 (v174 : IVec S16 32) : Prop :=
  (∀ a x, ((![v174] : Fin 1 → IVec S16 32) a x).toNat < S2048.size a) ∧
  (∀ a x, ((![v174] : Fin 1 → IVec S16 32) a x).toNat < S2048.size a)
theorem k1_idx1_inb : ∀ (v174 : IVec S16 32) (k1_hw1 : k1_chk1 v174), ∀ a x, ((![v174] : Fin 1 → IVec S16 32) a x).toNat < S2048.size a := fun v174 k1_hw1 => k1_hw1.1
theorem k1_idx3_inb : ∀ (v174 : IVec S16 32) (k1_hw1 : k1_chk1 v174), ∀ a x, ((![v174] : Fin 1 → IVec S16 32) a x).toNat < S2048.size a := fun v174 k1_hw1 => k1_hw1.2

def k1_chk3 (v178 : IVec S16 32) : Prop :=
  (∀ a x, ((![v178] : Fin 1 → IVec S16 32) a x).toNat < S2048.size a)
theorem k1_idx4_inb : ∀ (v178 : IVec S16 32) (k1_hw3 : k1_chk3 v178), ∀ a x, ((![v178] : Fin 1 → IVec S16 32) a x).toNat < S2048.size a := fun v178 k1_hw3 => k1_hw3

def k1_chk4 (v120 : IVec S16 32) : Prop :=
  (∀ a x, ((![v120] : Fin 1 → IVec S16 32) a x).toNat < S16.size a)
theorem k1_idx5_inb : ∀ (v120 : IVec S16 32) (k1_hw4 : k1_chk4 v120), ∀ a x, ((![v120] : Fin 1 → IVec S16 32) a x).toNat < S16.size a := fun v120 k1_hw4 => k1_hw4

def k1_chk5 (v166 : IVec S16 32) : Prop :=
  (∀ a x, ((![v166] : Fin 1 → IVec S16 32) a x).toNat < S16.size a)
theorem k1_idx6_inb : ∀ (v166 : IVec S16 32) (k1_hw5 : k1_chk5 v166), ∀ a x, ((![v166] : Fin 1 → IVec S16 32) a x).toNat < S16.size a := fun v166 k1_hw5 => k1_hw5

def k1_chk6 (v180 : IVec S16 32) : Prop :=
  (∀ a x, ((![v180] : Fin 1 → IVec S16 32) a x).toNat < S16.size a)
theorem k1_idx7_inb : ∀ (v180 : IVec S16 32) (k1_hw6 : k1_chk6 v180), ∀ a x, ((![v180] : Fin 1 → IVec S16 32) a x).toNat < S16.size a := fun v180 k1_hw6 => k1_hw6

def k1_chk7 (v182 : IVec S16 32) : Prop :=
  (∀ a x, ((![v182] : Fin 1 → IVec S16 32) a x).toNat < S16.size a)
theorem k1_idx8_inb : ∀ (v182 : IVec S16 32) (k1_hw7 : k1_chk7 v182), ∀ a x, ((![v182] : Fin 1 → IVec S16 32) a x).toNat < S16.size a := fun v182 k1_hw7 => k1_hw7
def k1_off10 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c2_i32_18 : BitVec 32 := 2#32
  let v32 : BitVec 32 := Scalar.muli v2 c2_i32_18
  ![v32.toNat]
def k1_off11 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_20_r3 : BitVec 32 := 0#32
  let c0_i32_21_r3 : BitVec 32 := 0#32
  ![v1.toNat, 0, 0]
abbrev grid2 : Pipeline.Grid := .none

abbrev stage2_0 : Fin 1 → Memref sig .tc .vmem S32x10x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S4x8192x12 : Shape := ⟨3, ![4, 8192, 12]⟩
abbrev S8x12 : Shape := ⟨2, ![8, 12]⟩
abbrev S32768x12 : Shape := ⟨2, ![32768, 12]⟩
abbrev S12x8 : Shape := ⟨2, ![12, 8]⟩
abbrev S32768x8 : Shape := ⟨2, ![32768, 8]⟩
abbrev S_ : Shape := ⟨0, ![]⟩
abbrev S32768 : Shape := ⟨1, ![32768]⟩
abbrev S32768x1 : Shape := ⟨2, ![32768, 1]⟩
abbrev S32768x2 : Shape := ⟨2, ![32768, 2]⟩
abbrev S4x8192x8 : Shape := ⟨3, ![4, 8192, 8]⟩
abbrev S4x8 : Shape := ⟨2, ![4, 8]⟩
abbrev S4x16384 : Shape := ⟨2, ![4, 16384]⟩
abbrev S4x16384x1 : Shape := ⟨3, ![4, 16384, 1]⟩
abbrev S8 : Shape := ⟨1, ![8]⟩
abbrev S1x1x8 : Shape := ⟨3, ![1, 1, 8]⟩
abbrev S4x16384x8 : Shape := ⟨3, ![4, 16384, 8]⟩
abbrev S4x4x2 : Shape := ⟨3, ![4, 4, 2]⟩
abbrev S4x4 : Shape := ⟨2, ![4, 4]⟩
abbrev S4 : Shape := ⟨1, ![4]⟩
abbrev S4x8192x2 : Shape := ⟨3, ![4, 8192, 2]⟩
abbrev S4x8192 : Shape := ⟨2, ![4, 8192]⟩
abbrev S4x1 : Shape := ⟨2, ![4, 1]⟩

abbrev nBuf : Space → Nat
  | .hbm => 131
  | .vmem => 0
  | .smem => 0
  | _ => 0

abbrev hbmTy0_0 (i : Nat) : BufTy := match i % 128 with
  | 0 => ⟨S4x8192x12, .f32⟩
  | 1 => ⟨S8x12, .f32⟩
  | 2 => ⟨S32768x12, .f32⟩
  | 3 => ⟨S12x8, .f32⟩
  | 4 => ⟨S32768x8, .f32⟩
  | 5 => ⟨S_, .f32⟩
  | 6 => ⟨S32768, .f32⟩
  | 7 => ⟨S_, .f32⟩
  | 8 => ⟨S32768, .f32⟩
  | 9 => ⟨S32768, .f32⟩
  | 10 => ⟨S32768x1, .f32⟩
  | 11 => ⟨S32768x8, .f32⟩
  | 12 => ⟨S32768x8, .f32⟩
  | 13 => ⟨S32768x8, .f32⟩
  | 14 => ⟨S_, .f32⟩
  | 15 => ⟨S32768, .f32⟩
  | 16 => ⟨S32768x1, .f32⟩
  | 17 => ⟨S32768x8, .f32⟩
  | 18 => ⟨S32768x8, .f32⟩
  | 19 => ⟨S32768x2, .f32⟩
  | 20 => ⟨S32768x2, .i32⟩
  | 21 => ⟨S4x8192x8, .f32⟩
  | 22 => ⟨S_, .f32⟩
  | 23 => ⟨S4x8, .f32⟩
  | 24 => ⟨S_, .f32⟩
  | 25 => ⟨S4x8, .f32⟩
  | 26 => ⟨S4x8, .f32⟩
  | 27 => ⟨S4x16384, .i32⟩
  | 28 => ⟨S4x16384x1, .i32⟩
  | 29 => ⟨S8, .i32⟩
  | 30 => ⟨S1x1x8, .i32⟩
  | 31 => ⟨S4x16384x8, .i32⟩
  | 32 => ⟨S4x16384x8, .i32⟩
  | 33 => ⟨S4x16384x8, .i1⟩
  | 34 => ⟨S4x16384x8, .i32⟩
  | 35 => ⟨S_, .i32⟩
  | 36 => ⟨S4x8, .i32⟩
  | 37 => ⟨S4x8, .f32⟩
  | 38 => ⟨S_, .f32⟩
  | 39 => ⟨S4x8, .f32⟩
  | 40 => ⟨S4x8, .f32⟩
  | 41 => ⟨S4x4x2, .f32⟩
  | 42 => ⟨S_, .f32⟩
  | 43 => ⟨S4x4, .f32⟩
  | 44 => ⟨S_, .f32⟩
  | 45 => ⟨S4x4, .f32⟩
  | 46 => ⟨S4x4, .f32⟩
  | 47 => ⟨S4x4x2, .f32⟩
  | 48 => ⟨S_, .f32⟩
  | 49 => ⟨S4x4, .f32⟩
  | 50 => ⟨S4x4, .f32⟩
  | 51 => ⟨S_, .f32⟩
  | 52 => ⟨S4, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S4x8192x2, .i32⟩
  | 60 => ⟨S_, .i32⟩
  | 61 => ⟨S_, .i32⟩
  | 62 => ⟨S4x8192x2, .i32⟩
  | 63 => ⟨S4x8192x2, .i32⟩
  | 64 => ⟨S4x8192x2, .i32⟩
  | 65 => ⟨S_, .i32⟩
  | 66 => ⟨S4x8192x2, .i32⟩
  | 67 => ⟨S4x8192x2, .i1⟩
  | 68 => ⟨S4x8192x2, .i32⟩
  | 69 => ⟨S4x8192x2, .i32⟩
  | 70 => ⟨S_, .i32⟩
  | 71 => ⟨S4x8192x2, .i32⟩
  | 72 => ⟨S4x8192x2, .i1⟩
  | 73 => ⟨S4x8192x2, .i1⟩
  | 74 => ⟨S_, .i32⟩
  | 75 => ⟨S4x8192x2, .i32⟩
  | 76 => ⟨S4x8192x2, .i32⟩
  | 77 => ⟨S4x8192x2, .i32⟩
  | 78 => ⟨S_, .i32⟩
  | 79 => ⟨S4x8192x2, .i32⟩
  | 80 => ⟨S4x8192x2, .i1⟩
  | 81 => ⟨S_, .i1⟩
  | 82 => ⟨S4x8192, .i1⟩
  | 83 => ⟨S4x8192, .i32⟩
  | 84 => ⟨S_, .i32⟩
  | 85 => ⟨S4, .i32⟩
  | 86 => ⟨S_, .i32⟩
  | 87 => ⟨S4x8192x2, .i32⟩
  | 88 => ⟨S4x8192x2, .i1⟩
  | 89 => ⟨S_, .i1⟩
  | 90 => ⟨S4x8192, .i1⟩
  | 91 => ⟨S4x8192, .i32⟩
  | 92 => ⟨S_, .i32⟩
  | 93 => ⟨S4, .i32⟩
  | 94 => ⟨S_, .i32⟩
  | 95 => ⟨S4x8192x2, .i32⟩
  | 96 => ⟨S4x8192x2, .i1⟩
  | 97 => ⟨S_, .i1⟩
  | 98 => ⟨S4x8192, .i1⟩
  | 99 => ⟨S4x8192, .i32⟩
  | 100 => ⟨S_, .i32⟩
  | 101 => ⟨S4, .i32⟩
  | 102 => ⟨S_, .i32⟩
  | 103 => ⟨S4x8192x2, .i32⟩
  | 104 => ⟨S4x8192x2, .i1⟩
  | 105 => ⟨S_, .i1⟩
  | 106 => ⟨S4x8192, .i1⟩
  | 107 => ⟨S4x8192, .i32⟩
  | 108 => ⟨S_, .i32⟩
  | 109 => ⟨S4, .i32⟩
  | 110 => ⟨S4x1, .i32⟩
  | 111 => ⟨S4x1, .i32⟩
  | 112 => ⟨S4x1, .i32⟩
  | 113 => ⟨S4x1, .i32⟩
  | 114 => ⟨S4x4, .i32⟩
  | 115 => ⟨S4x4, .f32⟩
  | 116 => ⟨S_, .f32⟩
  | 117 => ⟨S4x4, .f32⟩
  | 118 => ⟨S4x4, .f32⟩
  | 119 => ⟨S_, .f32⟩
  | 120 => ⟨S4x4, .f32⟩
  | 121 => ⟨S4x4, .f32⟩
  | 122 => ⟨S4x4, .f32⟩
  | 123 => ⟨S_, .f32⟩
  | 124 => ⟨S4, .f32⟩
  | 125 => ⟨S_, .f32⟩
  | 126 => ⟨S_, .f32⟩
  | 127 => ⟨S_, .f32⟩
  | _ => ⟨S4x8192x12, .f32⟩

abbrev hbmTy0_1 (i : Nat) : BufTy := match i % 128 with
  | 0 => ⟨S_, .f32⟩
  | 1 => ⟨S_, .f32⟩
  | 2 => ⟨S_, .f32⟩
  | _ => ⟨S4x8192x12, .f32⟩

abbrev hbmTy (i : Nat) : BufTy := match i / 128 with
  | 0 => hbmTy0_0 i
  | 1 => hbmTy0_1 i
  | _ => ⟨S4x8192x12, .f32⟩

abbrev bufTy : (tb : Table) → Fin (tcTables nBuf tb) → BufTy
  | .hbm, ⟨i, _⟩ => hbmTy i
  | _, _ => ⟨S4x8192x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_c_12 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_v8 : Ref sig .tc := ⟨.hbm, 69, rfl⟩
abbrev main_call0_c : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_c_0 : Ref sig .tc := ⟨.hbm, 74, rfl⟩
abbrev main_call0_v12 : Ref sig .tc := ⟨.hbm, 75, rfl⟩
abbrev main_call0_v13 : Ref sig .tc := ⟨.hbm, 76, rfl⟩
abbrev main_v42 : Ref sig .tc := ⟨.hbm, 77, rfl⟩
abbrev main_c_13 : Ref sig .tc := ⟨.hbm, 78, rfl⟩
abbrev main_v43 : Ref sig .tc := ⟨.hbm, 79, rfl⟩
abbrev main_v44 : Ref sig .tc := ⟨.hbm, 80, rfl⟩
abbrev main_c_14 : Ref sig .tc := ⟨.hbm, 81, rfl⟩
abbrev main_v45 : Ref sig .tc := ⟨.hbm, 82, rfl⟩
abbrev main_v46 : Ref sig .tc := ⟨.hbm, 83, rfl⟩
abbrev main_c_15 : Ref sig .tc := ⟨.hbm, 84, rfl⟩
abbrev main_v47 : Ref sig .tc := ⟨.hbm, 85, rfl⟩
abbrev main_c_16 : Ref sig .tc := ⟨.hbm, 86, rfl⟩
abbrev main_v48 : Ref sig .tc := ⟨.hbm, 87, rfl⟩
abbrev main_v49 : Ref sig .tc := ⟨.hbm, 88, rfl⟩
abbrev main_c_17 : Ref sig .tc := ⟨.hbm, 89, rfl⟩
abbrev main_v50 : Ref sig .tc := ⟨.hbm, 90, rfl⟩
abbrev main_v51 : Ref sig .tc := ⟨.hbm, 91, rfl⟩
abbrev main_c_18 : Ref sig .tc := ⟨.hbm, 92, rfl⟩
abbrev main_v52 : Ref sig .tc := ⟨.hbm, 93, rfl⟩
abbrev main_c_19 : Ref sig .tc := ⟨.hbm, 94, rfl⟩
abbrev main_v53 : Ref sig .tc := ⟨.hbm, 95, rfl⟩
abbrev main_v54 : Ref sig .tc := ⟨.hbm, 96, rfl⟩
abbrev main_c_20 : Ref sig .tc := ⟨.hbm, 97, rfl⟩
abbrev main_v55 : Ref sig .tc := ⟨.hbm, 98, rfl⟩
abbrev main_v56 : Ref sig .tc := ⟨.hbm, 99, rfl⟩
abbrev main_c_21 : Ref sig .tc := ⟨.hbm, 100, rfl⟩
abbrev main_v57 : Ref sig .tc := ⟨.hbm, 101, rfl⟩
abbrev main_c_22 : Ref sig .tc := ⟨.hbm, 102, rfl⟩
abbrev main_v58 : Ref sig .tc := ⟨.hbm, 103, rfl⟩
abbrev main_v59 : Ref sig .tc := ⟨.hbm, 104, rfl⟩
abbrev main_c_23 : Ref sig .tc := ⟨.hbm, 105, rfl⟩
abbrev main_v60 : Ref sig .tc := ⟨.hbm, 106, rfl⟩
abbrev main_v61 : Ref sig .tc := ⟨.hbm, 107, rfl⟩
abbrev main_c_24 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_25 : Ref sig .tc := ⟨.hbm, 116, rfl⟩
abbrev main_v69 : Ref sig .tc := ⟨.hbm, 117, rfl⟩
abbrev main_v70 : Ref sig .tc := ⟨.hbm, 118, rfl⟩
abbrev main_cst_26 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_cst_27 : Ref sig .tc := ⟨.hbm, 123, rfl⟩
abbrev main_v74 : Ref sig .tc := ⟨.hbm, 124, rfl⟩
abbrev main_cst_28 : Ref sig .tc := ⟨.hbm, 125, rfl⟩
abbrev main_v75 : Ref sig .tc := ⟨.hbm, 126, rfl⟩
abbrev main_cst_29 : Ref sig .tc := ⟨.hbm, 127, rfl⟩
abbrev main_v76 : Ref sig .tc := ⟨.hbm, 128, rfl⟩
abbrev main_cst_30 : Ref sig .tc := ⟨.hbm, 129, rfl⟩
abbrev main_v77 : Ref sig .tc := ⟨.hbm, 130, rfl⟩

abbrev nD : Nat := 1
abbrev τ : Topo := Topo.v7x

variable {F : FTy → Type} [FloatOps F]
-- ==== Proof.Trip.lean ====
/- One trip of the gate kernel's loop over sixteen tokens, as pure functions of the tile's block of logits: the two
   selected experts of each lane, their scores, the addresses the scatters use, and what the tile's five kinds of state
   (indices, weights, counts, device counts, score sums) are after `n` trips. -/
module

public import proofs.«01_k».proof.Proof.Gen.KernelIdeal.Skeleton
public import Idealize.ShloMosaic.Lib.ValueLayout

@[expose] public section

noncomputable section

namespace Cert.KernelIdeal.Gate

open Idealize.ShloMosaic Idealize.ShloMosaic.ValueIdx Cert.KernelIdeal Cert.KernelIdeal.Gen

variable {F : FTy → Type} [FloatOps F] [Named F]

/-- Token `16 t + x` of a tile's 1024. -/
def tok (t : Fin 64) (x : Fin 16) : Fin 1024 := ⟨16 * t.val + x.val, by omega⟩

/-- The sixteen logits of expert `e` that trip `t` reads. -/
def ldv (lg : Vec F S8x1024 .f32) (t : Fin 64) (e : Fin 8) : Vec F S1x16 .f32 := fun j => lg (ix2 e (tok t (j 1)))

section Lanes

variable (w : Fin 8 → Vec F S1x16 .f32)

/-- The reciprocal of the sum of the exponentials. -/
def inv : FVec F S16 .f32 := k1_pay17 (k1_pay76 (F := F)) (w 0) (w 1) (w 2) (w 3) (w 4) (w 5) (w 6) (w 7)
/-- The greatest logit of each lane, -/
def m1 : Vec F S16 .f32 :=
  k1_pay41 (k1_pay1 (w 0)) (k1_pay2 (w 1)) (k1_pay3 (w 2)) (k1_pay4 (w 3)) (k1_pay5 (w 4)) (k1_pay6 (w 5)) (k1_pay7 (w 6)) (k1_pay8 (w 7))
/-- and the first expert that has it. -/
def i1 : IVec S16 32 :=
  k1_pay42 (k1_pay1 (w 0)) (k1_pay2 (w 1)) (k1_pay3 (w 2)) (k1_pay4 (w 3)) (k1_pay5 (w 4)) (k1_pay6 (w 5)) (k1_pay7 (w 6)) (k1_pay8 (w 7))
/-- The second expert of each lane. -/
def i2 : IVec S16 32 :=
  k1_pay71 (k1_pay2 (w 1)) (k1_pay3 (w 2)) (k1_pay4 (w 3)) (k1_pay5 (w 4)) (k1_pay6 (w 5)) (k1_pay7 (w 6)) (k1_pay8 (w 7))
    (k1_pay27 (F := F)) (i1 w) (k1_pay43 (k1_pay1 (w 0)) (i1 w)) 0#32
/-- The first expert's score -/
def p1 : FVec F S16 .f32 := k1_pay72 (inv w) (m1 w)
/-- and the second's. -/
def p2 : FVec F S16 .f32 :=
  k1_pay73 (k1_pay2 (w 1)) (k1_pay3 (w 2)) (k1_pay4 (w 3)) (k1_pay5 (w 4)) (k1_pay6 (w 5)) (k1_pay7 (w 6)) (k1_pay8 (w 7))
    (inv w) (k1_pay27 (F := F)) (i1 w) (k1_pay43 (k1_pay1 (w 0)) (i1 w))

end Lanes

/-- The address of lane `x`'s first result: `2 (16 t + x)`. -/
def ob (t : Fin 64) : IVec S16 32 :=
  k1_pay74 (iota .scVector S16 32 [0] iota_S16_d0_w32_scVector) (Scalar.muli (Scf.iv 0#32 1#32 t) 16#32)

/-! ## The words stay in range -/

section Range

theorem sel_lt {c : IVec S16 1} {a b : IVec S16 32} {n : Nat} {x : S16.Idx} (ha : (a x).toNat < n) (hb : (b x).toNat < n) :
    (select c a b x).toNat < n := by
  unfold select Scalar.select; split <;> assumption

theorem i1_lt (w : Fin 8 → Vec F S1x16 .f32) (x : S16.Idx) : (i1 w x).toNat < 8 := by
  unfold i1 k1_pay42
  refine sel_lt ?_ (sel_lt ?_ (sel_lt ?_ (sel_lt ?_ (sel_lt ?_ (sel_lt ?_ (sel_lt ?_ ?_)))))) <;> (simp only [broadcast]; decide)

theorem i2_lt (w : Fin 8 → Vec F S1x16 .f32) (x : S16.Idx) : (i2 w x).toNat < 8 := by
  unfold i2 k1_pay71
  refine sel_lt ?_ (sel_lt ?_ (sel_lt ?_ (sel_lt ?_ (sel_lt ?_ (sel_lt ?_ (sel_lt ?_ ?_)))))) <;>
    (simp only [broadcast, k1_pay44, k1_pay48, k1_pay52, k1_pay56, k1_pay60, k1_pay64, k1_pay68]; decide)

theorem shr_toNat (v : IVec S16 32) (x : S16.Idx) : (k1_pay79 v x).toNat = (v x).toNat / 2 := by
  simp [k1_pay79, shrui, broadcast, IntOp.shrui, BitVec.toNat_ushiftRight, Nat.shiftRight_eq_div_pow]

theorem ob_toNat (t : Fin 64) (x : S16.Idx) : (ob t x).toNat = 2 * (16 * t.val + (x 0).val) := by
  have hx : (x 0).val < 16 := (x 0).isLt
  have ht := t.isLt
  simp only [ob, k1_pay74, muli, addi, broadcast, iota, Scalar.muli, Scf.iv, IntOp.muli, IntOp.addi, List.foldl_cons, List.foldl_nil,
    BitVec.toNat_mul, BitVec.toNat_add, BitVec.toNat_ofNat]
  generalize (x 0).val = y at *
  norm_num
  omega

theorem ob1_toNat (t : Fin 64) (x : S16.Idx) : (k1_pay77 (ob t) x).toNat = 2 * (16 * t.val + (x 0).val) + 1 := by
  have hx : (x 0).val < 16 := (x 0).isLt
  have ht := t.isLt
  simp only [k1_pay77, addi, broadcast, IntOp.addi, BitVec.toNat_add, BitVec.toNat_ofNat, ob_toNat]
  omega

theorem chk1 (t : Fin 64) : k1_chk1 (ob t) := by
  have h : ∀ (a : Fin 1) (x : S16.Idx), ((![ob t] : Fin 1 → IVec S16 32) a x).toNat < S2048.size a := by
    intro a x; obtain rfl : a = 0 := Subsingleton.elim _ _
    show (ob t x).toNat < 2048
    have hx : (x 0).val < 16 := (x 0).isLt
    rw [ob_toNat]; omega
  exact ⟨h, h⟩

theorem chk2 (t : Fin 64) : k1_chk2 (k1_pay77 (ob t)) := by
  intro a x; obtain rfl : a = 0 := Subsingleton.elim _ _
  show (k1_pay77 (ob t) x).toNat < 2048
  have hx : (x 0).val < 16 := (x 0).isLt
  rw [ob1_toNat]; omega

theorem chk3 (t : Fin 64) : k1_chk3 (k1_pay78 (ob t)) := chk2 t

theorem chk4 (w : Fin 8 → Vec F S1x16 .f32) : k1_chk4 (i1 w) := by
  intro a x; obtain rfl : a = 0 := Subsingleton.elim _ _
  exact (i1_lt w x).trans (show 8 < 16 by decide)

theorem chk5 (w : Fin 8 → Vec F S1x16 .f32) : k1_chk5 (i2 w) := by
  intro a x; obtain rfl : a = 0 := Subsingleton.elim _ _
  exact (i2_lt w x).trans (show 8 < 16 by decide)

theorem chk6 (w : Fin 8 → Vec F S1x16 .f32) : k1_chk6 (k1_pay79 (i1 w)) := by
  intro a x; obtain rfl : a = 0 := Subsingleton.elim _ _
  show (k1_pay79 (i1 w) x).toNat < 16
  have := i1_lt w x
  rw [shr_toNat]; omega

theorem chk7 (w : Fin 8 → Vec F S1x16 .f32) : k1_chk7 (k1_pay80 (i2 w)) := by
  intro a x; obtain rfl : a = 0 := Subsingleton.elim _ _
  show (k1_pay79 (i2 w) x).toNat < 16
  have := i2_lt w x
  rw [shr_toNat]; omega

end Range

/-! ## What one trip does to the tile's memory, and what `n` trips do -/

section Steps

variable (lg : Vec F S8x1024 .f32)

/-- The index scratch after a trip: lanes' first experts at even cells, second at odd. -/
def step7 (t : Fin 64) (f : Vec F S2048 .i32) : Vec F S2048 .i32 :=
  storeIdx (F := F) (e := .i32)
    (storeIdx (F := F) (e := .i32) f ![ob t] (i1 (ldv lg t)) (fun _ => 1#1) false (k1_idx1_inb _ (chk1 t)))
    ![k1_pay77 (ob t)] (i2 (ldv lg t)) (fun _ => 1#1) false (k1_idx2_inb _ (chk2 t))
/-- The weight scratch after a trip, likewise. -/
def step8 (t : Fin 64) (f : Vec F S2048 .f32) : Vec F S2048 .f32 :=
  storeIdx (F := F) (e := .f32)
    (storeIdx (F := F) (e := .f32) f ![ob t] (p1 (ldv lg t)) (fun _ => 1#1) false (k1_idx3_inb _ (chk1 t)))
    ![k1_pay78 (ob t)] (p2 (ldv lg t)) (fun _ => 1#1) false (k1_idx4_inb _ (chk3 t))
/-- The expert counts after a trip: one added per lane and selected expert. -/
def step9 (t : Fin 64) (f : Vec F S16 .f32) : Vec F S16 .f32 :=
  storeIdx (F := F) (e := .f32)
    (storeIdx (F := F) (e := .f32) f ![i1 (ldv lg t)] (k1_pay76 (F := F)) (fun _ => 1#1) true (k1_idx5_inb _ (chk4 _)))
    ![i2 (ldv lg t)] (k1_pay76 (F := F)) (fun _ => 1#1) true (k1_idx6_inb _ (chk5 _))
/-- The device counts after a trip: the second expert's device counted where it differs from the first's. -/
def step10 (t : Fin 64) (f : Vec F S16 .f32) : Vec F S16 .f32 :=
  storeIdx (F := F) (e := .f32)
    (storeIdx (F := F) (e := .f32) f ![k1_pay79 (i1 (ldv lg t))] (k1_pay76 (F := F)) (fun _ => 1#1) true (k1_idx7_inb _ (chk6 _)))
    ![k1_pay80 (i2 (ldv lg t))] (k1_pay76 (F := F)) (k1_pay81 (k1_pay79 (i1 (ldv lg t))) (k1_pay80 (i2 (ldv lg t)))) true
    (k1_idx8_inb _ (chk7 _))

/-- The eight running sums of scores, one per expert. -/
abbrev Acc (F : FTy → Type) : Type :=
  FVec F S16 .f32 × FVec F S16 .f32 × FVec F S16 .f32 × FVec F S16 .f32 × FVec F S16 .f32 × FVec F S16 .f32 × FVec F S16 .f32 × FVec F S16 .f32

/-- They after a trip. -/
def stepA (t : Fin 64) : Acc F → Acc F := fun (a0, a1, a2, a3, a4, a5, a6, a7) =>
  let w := ldv lg t
  (k1_pay19 a0 (k1_pay18 (k1_pay76 (F := F)) (w 0) (w 1) (w 2) (w 3) (w 4) (w 5) (w 6) (w 7)), k1_pay20 a1 (k1_pay10 (w 1)) (inv w),
    k1_pay21 a2 (k1_pay11 (w 2)) (inv w), k1_pay22 a3 (k1_pay12 (w 3)) (inv w), k1_pay23 a4 (k1_pay13 (w 4)) (inv w),
    k1_pay24 a5 (k1_pay14 (w 5)) (inv w), k1_pay25 a6 (k1_pay15 (w 6)) (inv w), k1_pay26 a7 (k1_pay16 (w 7)) (inv w))

/-- A step applied for trips `0 … n - 1`. -/
def iter {α : Type} (step : Fin 64 → α → α) (z : α) : Nat → α
  | 0 => z
  | n + 1 => if h : n < 64 then step ⟨n, h⟩ (iter step z n) else iter step z n

theorem iter_succ {α : Type} (step : Fin 64 → α → α) (z : α) (t : Fin 64) : iter step z (t.val + 1) = step t (iter step z t.val) :=
  dif_pos t.isLt

def acc0 : Acc F := (k1_pay75, k1_pay75, k1_pay75, k1_pay75, k1_pay75, k1_pay75, k1_pay75, k1_pay75)

end Steps

end Cert.KernelIdeal.Gate

end
-- ==== Proof.Setup.lean ====
/- The set-up of the run: the program as the launch theorem sees it, the user algebra (the call handshakes', the two
   pipelines', the transfers' counters), and the launch's decided facts. -/
module

public import proofs.«01_k».proof.Proof.Trip
public import proofs.«01_k».proof.Proof.Gen.KernelIdeal
public import proofs.«01_k».proof.Proof.Gen.KernelIdeal.Launch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.KernelIdeal.Gate

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The user algebra -/

abbrev UH : Type := URounds (GSem nD τ sig) ℕ
abbrev UP : Type := URounds (GSem nD τ sig) Unit
abbrev UU : Type := UH × (UP × Counters)
local notation "𝕄" => MT nD τ sig (HIx 1) (Elt F) ℕ UU ℕ

abbrev EH : Emb UH (MT nD τ sig (HIx 1) (Elt F) ℕ UU ℕ) := embL

end Cert.KernelIdeal.Gate

end
-- ==== Proof.TripRun.lean ====
/- One trip of the tile's loop, run: from the tile's scratch at any contents to the scratch at the trip's step of them. -/
module
public import proofs.«01_k».proof.Proof.Setup
@[expose] public section
noncomputable section
namespace Cert.KernelIdeal.Gate
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
local notation "𝕄" => MT nD τ sig (HIx 1) (Elt F) ℕ UU ℕ

abbrev cV (L : grid1.Coords) : Fin τ.nSC := (L 0).castLE hcore1
abbrev jV (L : grid1.Coords) : Fin τ.nSub := (L 1).castLE hsub1

abbrev sc0 : Memref sig .scVector .vmem S8x1024 .f32 := Memref.whole cc1_scratch0
abbrev sc1 : Memref sig .scVector .vmem S2048 .i32 := Memref.whole cc1_scratch1
abbrev sc2 : Memref sig .scVector .vmem S2048 .f32 := Memref.whole cc1_scratch2
abbrev sc3 : Memref sig .scVector .vmem S16 .f32 := Memref.whole cc1_scratch3
abbrev sc4 : Memref sig .scVector .vmem S16 .f32 := Memref.whole cc1_scratch4
abbrev sc5 : Memref sig .scVector .vmem S10x16 .f32 := Memref.whole cc1_scratch5

/-- A load of sixteen logits of one expert continues at them. -/
theorem wp_ld_row (d : Dev nD) (L : grid1.Coords) {α : Type} (lg : Vec F S8x1024 .f32) (t : Fin 64) (e : Fin 8) {off : Fin 2 → Nat}
    (hoff : off = ![e.val, 16 * t.val]) (inb : ∀ a, off a + S1x16.size a ≤ S8x1024.size a)
    (hl : sc0.view.LoadsAt (Rect.unit (s := S8x1024) off S1x16.size inb).toLoadRect)
    (k : Vec F S1x16 .f32 → Prog (TpuEff nD τ sig (Elt F) Λ₀ (.scVector (cV L) (jV L))) α) (Q : α → sProp 𝕄) :
    (sc0.view.loc (V d (cV L) (jV L)) ↦{fullShare} lg : sProp 𝕄)
    ⊢ iprop(((sc0.view.loc (V d (cV L) (jV L)) ↦{fullShare} lg)
        -∗ wp frame (wpE (defs₀ (F := F)) 𝒱₀ (V d (cV L) (jV L)) none) Set.univ (k (ldv lg t e)) Q)
      -∗ wp frame (wpE (defs₀ (F := F)) 𝒱₀ (V d (cV L) (jV L)) none) Set.univ
          (.op (.load sc0 (Rect.unit (s := S8x1024) off S1x16.size inb).toLoadRect hl) k) Q) := by
  have he : sc0.view.readAt (Elt F) (Rect.unit (s := S8x1024) off S1x16.size inb).toLoadRect lg = ldv lg t e := by
    subst hoff
    funext j
    refine congrArg lg (funext fun a => ?_)
    change (Rect.unit (s := S8x1024) ![e.val, 16 * t.val] S1x16.size inb).idx j a = _
    match a with
    | 0 =>
      have hj : (j 0).val < 1 := (j 0).isLt
      exact Fin.ext (show e.val + 1 * (j 0).val = e.val by omega)
    | 1 => exact Fin.ext (show 16 * t.val + 1 * (j 1).val = 16 * t.val + (j 1).val by omega)
  rw [← he]
  exact wp_load 𝒱₀ (V d (cV L) (jV L)) none Set.univ (m := sc0) (S := Finset.univ) (Finset.subset_univ _)

/-- A scatter into a whole scratch leaves it at the scatter's value. -/
theorem wp_scatter (d : Dev nD) (L : grid1.Coords) {α : Type} {s : Shape} {e : EltTy} {n : Fin 1 → Nat} (base : Memref sig .scVector .vmem s e)
    (hset : (base.access (.whole s)).set = Finset.univ) {idxs : Fin s.rank → IVec ⟨1, n⟩ 32} {v : Vec F ⟨1, n⟩ e}
    {mask : IVec ⟨1, n⟩ 1} {add : Bool} {h : ∀ a x, (idxs a x).toNat < s.size a} {hs : (base.access (.whole s)).Stores Finset.univ}
    {k : PUnit → Prog (TpuEff nD τ sig (Elt F) Λ₀ (.scVector (cV L) (jV L))) α} {Q : α → sProp 𝕄}
    {f g : Buf (Elt F) (base.view.loc (V d (cV L) (jV L)))}
    (hg : (base.access (.whole s)).write (Elt F) f (storeIdx ((base.access (.whole s)).read (Elt F) f) idxs v mask add h) Finset.univ = g) :
    (base.view.loc (V d (cV L) (jV L)) ↦{fullShare} f : sProp 𝕄)
    ⊢ iprop(((base.view.loc (V d (cV L) (jV L)) ↦{fullShare} g)
        -∗ wp frame (wpE (defs₀ (F := F)) 𝒱₀ (V d (cV L) (jV L)) none) Set.univ (k ⟨⟩) Q)
      -∗ wp frame (wpE (defs₀ (F := F)) 𝒱₀ (V d (cV L) (jV L)) none) Set.univ
          (SparseCore.vectorStoreIdx base idxs v mask add h hs >>= k) Q) := by
  have H := SparseCore.wp_vectorStoreIdx (defs := defs₀ (F := F)) (Ix := HIx 1) (Name := ℕ) (U := UU) (Lvl := ℕ) (Q := Q) 𝒱₀ (V d (cV L) (jV L)) none Set.univ (base := base) (idxs := idxs) (v := v) (mask := mask)
    (add := add) (h := h) (hs := hs) (k := k) (f := f)
  rw [hset, hg] at H
  exact H

theorem wp_scatter1 (d : Dev nD) (L : grid1.Coords) {α : Type} {idxs : Fin 1 → IVec S16 32} {v : Vec F S16 .i32}
    {mask : IVec S16 1} {add : Bool} {h : ∀ a x, (idxs a x).toNat < S2048.size a} {hs : (sc1.access (.whole _)).Stores Finset.univ}
    {k : PUnit → Prog (TpuEff nD τ sig (Elt F) Λ₀ (.scVector (cV L) (jV L))) α} {Q : α → sProp 𝕄} {f : Vec F S2048 .i32} :
    (sc1.view.loc (V d (cV L) (jV L)) ↦{fullShare} f : sProp 𝕄)
    ⊢ iprop(((sc1.view.loc (V d (cV L) (jV L)) ↦{fullShare} storeIdx (F := F) (e := .i32) f idxs v mask add h)
        -∗ wp frame (wpE (defs₀ (F := F)) 𝒱₀ (V d (cV L) (jV L)) none) Set.univ (k ⟨⟩) Q)
      -∗ wp frame (wpE (defs₀ (F := F)) 𝒱₀ (V d (cV L) (jV L)) none) Set.univ
          (SparseCore.vectorStoreIdx sc1 idxs v mask add h hs >>= k) Q) :=
  wp_scatter d L sc1 (Memref.set_access_whole _) ((Memref.write_access_whole_univ (Elt F) cc1_scratch1 f _).trans
    (congrArg (fun f' : Vec F S2048 .i32 => storeIdx (F := F) (e := .i32) f' idxs v mask add h) (Memref.read_access_whole (Elt F) cc1_scratch1 f)))

theorem wp_scatter2 (d : Dev nD) (L : grid1.Coords) {α : Type} {idxs : Fin 1 → IVec S16 32} {v : Vec F S16 .f32}
    {mask : IVec S16 1} {add : Bool} {h : ∀ a x, (idxs a x).toNat < S2048.size a} {hs : (sc2.access (.whole _)).Stores Finset.univ}
    {k : PUnit → Prog (TpuEff nD τ sig (Elt F) Λ₀ (.scVector (cV L) (jV L))) α} {Q : α → sProp 𝕄} {f : Vec F S2048 .f32} :
    (sc2.view.loc (V d (cV L) (jV L)) ↦{fullShare} f : sProp 𝕄)
    ⊢ iprop(((sc2.view.loc (V d (cV L) (jV L)) ↦{fullShare} storeIdx (F := F) (e := .f32) f idxs v mask add h)
        -∗ wp frame (wpE (defs₀ (F := F)) 𝒱₀ (V d (cV L) (jV L)) none) Set.univ (k ⟨⟩) Q)
      -∗ wp frame (wpE (defs₀ (F := F)) 𝒱₀ (V d (cV L) (jV L)) none) Set.univ
          (SparseCore.vectorStoreIdx sc2 idxs v mask add h hs >>= k) Q) :=
  wp_scatter d L sc2 (Memref.set_access_whole _) ((Memref.write_access_whole_univ (Elt F) cc1_scratch2 f _).trans
    (congrArg (fun f' : Vec F S2048 .f32 => storeIdx (F := F) (e := .f32) f' idxs v mask add h) (Memref.read_access_whole (Elt F) cc1_scratch2 f)))

theorem wp_scatter3 (d : Dev nD) (L : grid1.Coords) {α : Type} {idxs : Fin 1 → IVec S16 32} {v : Vec F S16 .f32}
    {mask : IVec S16 1} {add : Bool} {h : ∀ a x, (idxs a x).toNat < S16.size a} {hs : (sc3.access (.whole _)).Stores Finset.univ}
    {k : PUnit → Prog (TpuEff nD τ sig (Elt F) Λ₀ (.scVector (cV L) (jV L))) α} {Q : α → sProp 𝕄} {f : Vec F S16 .f32} :
    (sc3.view.loc (V d (cV L) (jV L)) ↦{fullShare} f : sProp 𝕄)
    ⊢ iprop(((sc3.view.loc (V d (cV L) (jV L)) ↦{fullShare} storeIdx (F := F) (e := .f32) f idxs v mask add h)
        -∗ wp frame (wpE (defs₀ (F := F)) 𝒱₀ (V d (cV L) (jV L)) none) Set.univ (k ⟨⟩) Q)
      -∗ wp frame (wpE (defs₀ (F := F)) 𝒱₀ (V d (cV L) (jV L)) none) Set.univ
          (SparseCore.vectorStoreIdx sc3 idxs v mask add h hs >>= k) Q) :=
  wp_scatter d L sc3 (Memref.set_access_whole _) ((Memref.write_access_whole_univ (Elt F) cc1_scratch3 f _).trans
    (congrArg (fun f' : Vec F S16 .f32 => storeIdx (F := F) (e := .f32) f' idxs v mask add h) (Memref.read_access_whole (Elt F) cc1_scratch3 f)))

theorem wp_scatter4 (d : Dev nD) (L : grid1.Coords) {α : Type} {idxs : Fin 1 → IVec S16 32} {v : Vec F S16 .f32}
    {mask : IVec S16 1} {add : Bool} {h : ∀ a x, (idxs a x).toNat < S16.size a} {hs : (sc4.access (.whole _)).Stores Finset.univ}
    {k : PUnit → Prog (TpuEff nD τ sig (Elt F) Λ₀ (.scVector (cV L) (jV L))) α} {Q : α → sProp 𝕄} {f : Vec F S16 .f32} :
    (sc4.view.loc (V d (cV L) (jV L)) ↦{fullShare} f : sProp 𝕄)
    ⊢ iprop(((sc4.view.loc (V d (cV L) (jV L)) ↦{fullShare} storeIdx (F := F) (e := .f32) f idxs v mask add h)
        -∗ wp frame (wpE (defs₀ (F := F)) 𝒱₀ (V d (cV L) (jV L)) none) Set.univ (k ⟨⟩) Q)
      -∗ wp frame (wpE (defs₀ (F := F)) 𝒱₀ (V d (cV L) (jV L)) none) Set.univ
          (SparseCore.vectorStoreIdx sc4 idxs v mask add h hs >>= k) Q) :=
  wp_scatter d L sc4 (Memref.set_access_whole _) ((Memref.write_access_whole_univ (Elt F) cc1_scratch4 f _).trans
    (congrArg (fun f' : Vec F S16 .f32 => storeIdx (F := F) (e := .f32) f' idxs v mask add h) (Memref.read_access_whole (Elt F) cc1_scratch4 f)))

theorem wp_asm (d : Dev nD) (L : grid1.Coords) {α : Type} {P : Prop} {i : Decidable P}
    {k : PLift P → Prog (TpuEff nD τ sig (Elt F) Λ₀ (.scVector (cV L) (jV L))) α} {Q : α → sProp 𝕄} (h : P) :
    (wp frame (wpE (defs₀ (F := F)) 𝒱₀ (V d (cV L) (jV L)) none) Set.univ (k ⟨h⟩) Q : sProp 𝕄)
    ⊢ wp frame (wpE (defs₀ (F := F)) 𝒱₀ (V d (cV L) (jV L)) none) Set.univ (.op (.assume P i) k) Q :=
  Entails.of_eq (wp_assume_of 𝒱₀ (V d (cV L) (jV L)) none Set.univ h).symm

theorem wp_done (d : Dev nD) (L : grid1.Coords) {α : Type} {a : α} {Q : α → sProp 𝕄} :
    (Q a : sProp 𝕄) ⊢ wp frame (wpE (defs₀ (F := F)) 𝒱₀ (V d (cV L) (jV L)) none) Set.univ (.ret a) Q :=
  fupd_intro (PROP := sProp 𝕄)

/-- A trip of the tile's loop: the eight loads, the selections and scores, the eight scatters. -/
theorem trip_run (d : Dev nD) (L : grid1.Coords) (lg : Vec F S8x1024 .f32) (t : Fin 64) (A : Acc F)
    (f1 : Vec F S2048 .i32) (f2 : Vec F S2048 .f32) (f3 f4 : Vec F S16 .f32) :
    (iprop((sc0.view.loc (V d (cV L) (jV L)) ↦{fullShare} lg) ∗ (sc1.view.loc (V d (cV L) (jV L)) ↦{fullShare} f1)
      ∗ (sc2.view.loc (V d (cV L) (jV L)) ↦{fullShare} f2) ∗ (sc3.view.loc (V d (cV L) (jV L)) ↦{fullShare} f3)
      ∗ (sc4.view.loc (V d (cV L) (jV L)) ↦{fullShare} f4)) : sProp 𝕄)
    ⊢ wp frame (wpE (defs₀ (F := F)) 𝒱₀ (V d (cV L) (jV L)) none) Set.univ
        (k1_t1_body L (Memref.whole main_v1_scv) (Memref.isWhole_whole _) (Memref.whole main_v2_0_scv) (Memref.isWhole_whole _)
          (Memref.whole main_v2_1_scv) (Memref.isWhole_whole _) (Memref.whole main_v2_2_scv) (Memref.isWhole_whole _)
          sc0 (Memref.isWhole_whole _) sc1 (Memref.isWhole_whole _) sc2 (Memref.isWhole_whole _) sc3 (Memref.isWhole_whole _)
          sc4 (Memref.isWhole_whole _) sc5 (Memref.isWhole_whole _) cc1_scoped0 cc1_scoped1 cc1_scoped2 cc1_scoped3
          (iota .scVector S16 32 [0] iota_S16_d0_w32_scVector) t A)
        fun A' => iprop(⌜A' = stepA lg t A⌝ ∗ (sc0.view.loc (V d (cV L) (jV L)) ↦{fullShare} lg)
          ∗ (sc1.view.loc (V d (cV L) (jV L)) ↦{fullShare} step7 lg t f1)
          ∗ (sc2.view.loc (V d (cV L) (jV L)) ↦{fullShare} step8 lg t f2)
          ∗ (sc3.view.loc (V d (cV L) (jV L)) ↦{fullShare} step9 lg t f3)
          ∗ (sc4.view.loc (V d (cV L) (jV L)) ↦{fullShare} step10 lg t f4)) := by
  obtain ⟨a0, a1, a2, a3, a4, a5, a6, a7⟩ := A
  unfold k1_t1_body
  rw [k1_part1_eq_skeleton, k1_part2_eq_skeleton, k1_part3_eq_skeleton]
  unfold k1_part1_skel
  iintro ⟨H0, H1, H2, H3, H4⟩
  iapply (wp_ld_row d L lg t 0 (k1_off2_eq t) (k1_off2_inb t) _ _ _) $$ H0; iintro H0
  iapply (wp_ld_row d L lg t 1 (k1_off3_eq t) (k1_off3_inb t) _ _ _) $$ H0; iintro H0
  iapply (wp_ld_row d L lg t 2 (k1_off4_eq t) (k1_off4_inb t) _ _ _) $$ H0; iintro H0
  iapply (wp_ld_row d L lg t 3 (k1_off5_eq t) (k1_off5_inb t) _ _ _) $$ H0; iintro H0
  iapply (wp_ld_row d L lg t 4 (k1_off6_eq t) (k1_off6_inb t) _ _ _) $$ H0; iintro H0
  iapply (wp_ld_row d L lg t 5 (k1_off7_eq t) (k1_off7_inb t) _ _ _) $$ H0; iintro H0
  iapply (wp_ld_row d L lg t 6 (k1_off8_eq t) (k1_off8_inb t) _ _ _) $$ H0; iintro H0
  iapply (wp_ld_row d L lg t 7 (k1_off9_eq t) (k1_off9_inb t) _ _ _) $$ H0; iintro H0
  unfold k1_part2_skel k1_part3_skel
  iapply (wp_asm d L (chk4 (ldv lg t)))
  iapply (wp_asm d L (chk5 (ldv lg t)))
  iapply (wp_asm d L (chk1 t))
  iapply (wp_scatter1 d L) $$ H1; iintro H1
  iapply (wp_asm d L (chk2 t))
  iapply (wp_scatter1 d L) $$ H1; iintro H1
  iapply (wp_scatter2 d L) $$ H2; iintro H2
  iapply (wp_asm d L (chk3 t))
  iapply (wp_scatter2 d L) $$ H2; iintro H2
  iapply (wp_scatter3 d L) $$ H3; iintro H3
  iapply (wp_scatter3 d L) $$ H3; iintro H3
  iapply (wp_asm d L (chk6 (ldv lg t)))
  iapply (wp_asm d L (chk7 (ldv lg t)))
  iapply (wp_scatter4 d L) $$ H4; iintro H4
  iapply (wp_scatter4 d L) $$ H4; iintro H4
  iapply (wp_done d L)
  isplitr
  · ipureintro; rfl
  isplitl [H0]; · iexact H0
  isplitl [H1]; · iexact H1
  isplitl [H2]; · iexact H2
  isplitl [H3]; · iexact H3
  iexact H4

end Cert.KernelIdeal.Gate
end
-- ==== Proof.Values.lean ====
/- The gate's three results as functions of the logits, and that a tile's sixty-four trips fill its two result scratches
   with them, cell by cell. -/
module

public import proofs.«01_k».proof.Proof.TripRun

@[expose] public section

noncomputable section

namespace Cert.KernelIdeal.Gate

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
local notation "𝕄" => MT nD τ sig (HIx 1) (Elt F) ℕ UU ℕ

/-! ## The three results as functions of the logits -/

section Values

variable (lg : Vec F S8x1024 .f32)

/-- The trip and the lane of cell `k` of a tile's 2048 results. -/
def cellT (k : Nat) (h : k < 2048) : Fin 64 := ⟨k / 32, by omega⟩
def cellX (k : Nat) : Fin 16 := ⟨k / 2 % 16, by omega⟩

/-- A tile's selected experts: the first at even cells, the second at odd. -/
def out7 : Vec F S2048 .i32 := fun j =>
  if (j 0).val % 2 = 0 then i1 (ldv lg (cellT (j 0).val (j 0).isLt)) (ix1 (cellX (j 0).val))
  else i2 (ldv lg (cellT (j 0).val (j 0).isLt)) (ix1 (cellX (j 0).val))
/-- Their scores, likewise. -/
def out8 : Vec F S2048 .f32 := fun j =>
  if (j 0).val % 2 = 0 then p1 (ldv lg (cellT (j 0).val (j 0).isLt)) (ix1 (cellX (j 0).val))
  else p2 (ldv lg (cellT (j 0).val (j 0).isLt)) (ix1 (cellX (j 0).val))

/-- A tile's score sums, -/
def accs : Acc F := iter (stepA lg) acc0 64
/-- expert counts -/
def cnts : Vec F S16 .f32 := iter (step9 lg) (k1_pay75 (F := F)) 64
/-- and device counts. -/
def devs : Vec F S16 .f32 := iter (step10 lg) (k1_pay75 (F := F)) 64

/-- Component `e` of eight. -/
def comp (A : Acc F) (e : Nat) : FVec F S16 .f32 :=
  match e with
  | 0 => A.1 | 1 => A.2.1 | 2 => A.2.2.1 | 3 => A.2.2.2.1 | 4 => A.2.2.2.2.1 | 5 => A.2.2.2.2.2.1 | 6 => A.2.2.2.2.2.2.1
  | _ => A.2.2.2.2.2.2.2

/-- A tile's statistics: eight rows of score sums, the expert counts, the device counts. -/
def stat : Vec F S10x16 .f32 := fun j =>
  if (j 0).val < 8 then comp (accs lg) (j 0).val (ix1 (j 1)) else if (j 0).val = 8 then cnts lg (ix1 (j 1)) else devs lg (ix1 (j 1))

end Values

/-- Tile `w`'s block of the logits. -/
def lgRow (B : Vec F S32x8x1024 .f32) (w : Fin 32) : Vec F S8x1024 .f32 := fun j => B (ix3 w (j 0) (j 1))

/-- The three results of the call, from the logits. -/
def O7 (B : Vec F S32x8x1024 .f32) : Vec F S65536 .i32 := fun j =>
  out7 (lgRow B ⟨(j 0).val / 2048, by have h : (j 0).val < 65536 := (j 0).isLt; omega⟩) (ix1 ⟨(j 0).val % 2048, Nat.mod_lt _ (by decide)⟩)
def O8 (B : Vec F S32x8x1024 .f32) : Vec F S65536 .f32 := fun j =>
  out8 (lgRow B ⟨(j 0).val / 2048, by have h : (j 0).val < 65536 := (j 0).isLt; omega⟩) (ix1 ⟨(j 0).val % 2048, Nat.mod_lt _ (by decide)⟩)
def OS (B : Vec F S32x8x1024 .f32) : Vec F S32x10x16 .f32 := fun j => stat (lgRow B (j 0)) (ix2 (j 1) (j 2))

/-! ## A scatter of sixteen lanes, cell by cell -/

/-- Cell `j` after a scatter: the lanes that name it, in order. -/
theorem storeIdx_cell {e : EltTy} {n : Nat} (f : Vec F ⟨1, ![n]⟩ e) (ix : IVec S16 32) (v : Vec F S16 e) (mask : IVec S16 1) (add : Bool)
    (h : ∀ (a : Fin 1) (x : S16.Idx), ((![ix] : Fin 1 → IVec S16 32) a x).toNat < (⟨1, ![n]⟩ : Shape).size a)
    (j : (⟨1, ![n]⟩ : Shape).Idx) :
    storeIdx (F := F) (e := e) f ![ix] v mask add h j
      = (List.finRange 16).foldl (fun y k => if mask (ix1 k) = 1 then
          if (j 0).val = (ix (ix1 k)).toNat then (if add then Elt.idxAdd e y (v (ix1 k)) else v (ix1 k)) else y else y) (f j) := by
  unfold storeIdx
  have hl : ∀ k : Fin 16, (Shape.ofLane k : S16.Idx) = ix1 k := fun k => funext fun a => by
    obtain rfl : a = 0 := Subsingleton.elim _ _
    rfl
  show (List.foldl _ f (List.finRange 16)) j = _
  generalize List.finRange 16 = l
  induction l generalizing f with
  | nil => rfl
  | cons k l ih =>
    refine (ih _).trans ?_
    rw [List.foldl_cons]
    congr 1
    simp only [hl]
    by_cases hm : mask (ix1 k) = 1
    · rw [if_pos hm, if_pos hm]
      by_cases hj : (j 0).val = (ix (ix1 k)).toNat
      · have hj' : ∀ a, (j a).val = (idxAt ![ix] h (ix1 k) a).val := fun a => by
          obtain rfl : a = 0 := Subsingleton.elim _ _
          exact hj
        have he : idxAt ![ix] h (ix1 k) = j := funext fun a => Fin.ext (hj' a).symm
        rw [if_pos hj', if_pos hj, he]
      · rw [if_neg (fun h' => hj (h' 0)), if_neg hj]
    · rw [if_neg hm, if_neg hm]

theorem foldl_miss {α : Type} {l : List (Fin 16)} {p : Fin 16 → Prop} [DecidablePred p] {v : Fin 16 → α} {y : α} (h : ∀ k, ¬p k) :
    l.foldl (fun y k => if p k then v k else y) y = y := by
  induction l generalizing y with
  | nil => rfl
  | cons k l ih => rw [List.foldl_cons, if_neg (h k), ih]

theorem foldl_hit {α : Type} {l : List (Fin 16)} {p : Fin 16 → Prop} [DecidablePred p] {v : Fin 16 → α} {y : α} {k₀ : Fin 16}
    (h : ∀ k, p k ↔ k = k₀) (hy : k₀ ∈ l ∨ y = v k₀) : l.foldl (fun y k => if p k then v k else y) y = v k₀ := by
  induction l generalizing y with
  | nil => exact hy.resolve_left (List.not_mem_nil)
  | cons k l ih =>
    rw [List.foldl_cons]
    refine ih ?_
    by_cases hk : k = k₀
    · exact .inr (by rw [if_pos ((h k).mpr hk), hk])
    · rw [if_neg (fun hp => hk ((h k).mp hp))]
      rcases hy with hy | hy
      · exact .inl ((List.mem_cons.mp hy).resolve_left (Ne.symm hk))
      · exact .inr hy

/-- An unmasked scatter at lane addresses `c + 2 x`: the cell of lane `x` holds its word, -/
theorem scatter_hit {e : EltTy} (f : Vec F S2048 e) (ix : IVec S16 32) (v : Vec F S16 e)
    (h : ∀ (a : Fin 1) (x : S16.Idx), ((![ix] : Fin 1 → IVec S16 32) a x).toNat < S2048.size a) {c : Nat}
    (hix : ∀ k : Fin 16, (ix (ix1 k)).toNat = c + 2 * k.val) (j : S2048.Idx) (k : Fin 16) (hj : (j 0).val = c + 2 * k.val) :
    storeIdx (F := F) (e := e) f ![ix] v (fun _ => 1#1) false h j = v (ix1 k) := by
  rw [storeIdx_cell]
  show (List.finRange 16).foldl (fun y k => if (j 0).val = (ix (ix1 k)).toNat then v (ix1 k) else y) (f j) = _
  refine foldl_hit (v := fun k => v (ix1 k)) (fun k' => ?_) (.inl (List.mem_finRange k))
  rw [hix, hj]
  exact ⟨fun he => Fin.ext (by omega), fun he => he ▸ rfl⟩

/-- and any other cell is kept. -/
theorem scatter_miss {e : EltTy} (f : Vec F S2048 e) (ix : IVec S16 32) (v : Vec F S16 e)
    (h : ∀ (a : Fin 1) (x : S16.Idx), ((![ix] : Fin 1 → IVec S16 32) a x).toNat < S2048.size a) {c : Nat}
    (hix : ∀ k : Fin 16, (ix (ix1 k)).toNat = c + 2 * k.val) (j : S2048.Idx) (hj : ∀ k : Fin 16, (j 0).val ≠ c + 2 * k.val) :
    storeIdx (F := F) (e := e) f ![ix] v (fun _ => 1#1) false h j = f j := by
  rw [storeIdx_cell]
  show (List.finRange 16).foldl (fun y k => if (j 0).val = (ix (ix1 k)).toNat then v (ix1 k) else y) (f j) = _
  exact foldl_miss (v := fun k => v (ix1 k)) fun k => by rw [hix]; exact hj k

/-! ## Trips fill the result scratches -/

/-- Two scatters, of `u` at the even and `w` at the odd cells of trip `t`'s thirty-two. -/
theorem pair_cell {e : EltTy} (t : Fin 64) (f : Vec F S2048 e) (a b : IVec S16 32) (u w : Vec F S16 e) (ha hb)
    (hat : ∀ k : Fin 16, (a (ix1 k)).toNat = 32 * t.val + 2 * k.val) (hbt : ∀ k : Fin 16, (b (ix1 k)).toNat = (32 * t.val + 1) + 2 * k.val)
    (j : S2048.Idx) :
    storeIdx (F := F) (e := e) (storeIdx (F := F) (e := e) f ![a] u (fun _ => 1#1) false ha) ![b] w (fun _ => 1#1) false hb j
      = if (j 0).val / 32 = t.val then (if (j 0).val % 2 = 0 then u (ix1 (cellX (j 0).val)) else w (ix1 (cellX (j 0).val))) else f j := by
  have hx : (cellX (j 0).val).val = (j 0).val / 2 % 16 := rfl
  by_cases ht : (j 0).val / 32 = t.val
  · rw [if_pos ht]
    by_cases h2 : (j 0).val % 2 = 0
    · rw [if_pos h2, scatter_miss _ b w hb hbt j (fun k => by omega), scatter_hit _ a u ha hat j (cellX (j 0).val) (by omega)]
    · rw [if_neg h2, scatter_hit _ b w hb hbt j (cellX (j 0).val) (by omega)]
  · rw [if_neg ht, scatter_miss _ b w hb hbt j (fun k => by omega), scatter_miss _ a u ha hat j (fun k => by omega)]

theorem ob_ix (t : Fin 64) (k : Fin 16) : (ob t (ix1 k)).toNat = 32 * t.val + 2 * k.val := by
  rw [ob_toNat]; show 2 * (16 * t.val + k.val) = _; omega
theorem ob1_ix (t : Fin 64) (k : Fin 16) : (k1_pay77 (ob t) (ix1 k)).toNat = (32 * t.val + 1) + 2 * k.val := by
  rw [ob1_toNat]; show 2 * (16 * t.val + k.val) + 1 = _; omega

theorem ob2_ix (t : Fin 64) (k : Fin 16) : (k1_pay78 (ob t) (ix1 k)).toNat = (32 * t.val + 1) + 2 * k.val := ob1_ix t k

theorem iter_pair {α : Type} (step : Fin 64 → (S2048.Idx → α) → (S2048.Idx → α)) (out : S2048.Idx → α) (f : S2048.Idx → α)
    (h : ∀ t g j, step t g j = if (j 0).val / 32 = t.val then out j else g j) : iter step f 64 = out := by
  have H : ∀ n ≤ 64, ∀ j, iter step f n j = if (j 0).val / 32 < n then out j else f j := by
    intro n
    induction n with
    | zero => intro _ j; rfl
    | succ n ih =>
      intro hn j
      rw [iter_succ step f ⟨n, hn⟩, h]
      show (if (j 0).val / 32 = n then out j else iter step f n j) = _
      rw [ih (by omega)]
      by_cases h1 : (j 0).val / 32 = n
      · rw [if_pos h1, if_pos (by omega)]
      · rw [if_neg h1]
        by_cases h2 : (j 0).val / 32 < n
        · rw [if_pos h2, if_pos (by omega)]
        · rw [if_neg h2, if_neg (by omega)]
  funext j
  have hj : (j 0).val < 2048 := (j 0).isLt
  rw [H 64 le_rfl, if_pos (by omega)]

theorem iter_step7 (lg : Vec F S8x1024 .f32) (f : Vec F S2048 .i32) : iter (step7 lg) f 64 = out7 lg :=
  iter_pair (step7 lg) (out7 lg) f fun t g j => by
    unfold step7 out7
    rw [pair_cell t g _ _ _ _ _ _ (ob_ix t) (ob1_ix t)]
    by_cases ht : (j 0).val / 32 = t.val
    · rw [if_pos ht, if_pos ht, show cellT (j 0).val (j 0).isLt = t from Fin.ext ht]
    · rw [if_neg ht, if_neg ht]

theorem iter_step8 (lg : Vec F S8x1024 .f32) (f : Vec F S2048 .f32) : iter (step8 lg) f 64 = out8 lg :=
  iter_pair (step8 lg) (out8 lg) f fun t g j => by
    unfold step8 out8
    rw [pair_cell t g _ _ _ _ _ _ (ob_ix t) (ob2_ix t)]
    by_cases ht : (j 0).val / 32 = t.val
    · rw [if_pos ht, if_pos ht, show cellT (j 0).val (j 0).isLt = t from Fin.ext ht]
    · rw [if_neg ht, if_neg ht]

end Cert.KernelIdeal.Gate

end
-- ==== Proof.Rows.lean ====
/- The tiles' parts of the four operands: the tile's views of them, what its transfers read and leave there; and the
   tile's own semaphores and scratch buffers. -/
module

public import proofs.«01_k».proof.Proof.Values

@[expose] public section

noncomputable section

namespace Cert.KernelIdeal.Gate

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
local notation "𝕄" => MT nD τ sig (HIx 1) (Elt F) ℕ UU ℕ

/-! ## The operands, and the tiles' parts of them -/

abbrev lgLoc (d : Dev nD) : Loc nD τ sig := (SparseCore.T d).loc main_v1
abbrev ixLoc (d : Dev nD) : Loc nD τ sig := (SparseCore.T d).loc main_v2_0
abbrev twLoc (d : Dev nD) : Loc nD τ sig := (SparseCore.T d).loc main_v2_1
abbrev stLoc (d : Dev nD) : Loc nD τ sig := (SparseCore.T d).loc main_v2_2

abbrev lgV : Memref sig .scVector .hbm S32x8x1024 .f32 := Memref.whole main_v1_scv
abbrev ixV : Memref sig .scVector .hbm S65536 .i32 := Memref.whole main_v2_0_scv
abbrev twV : Memref sig .scVector .hbm S65536 .f32 := Memref.whole main_v2_1_scv
abbrev stV : Memref sig .scVector .hbm S32x10x16 .f32 := Memref.whole main_v2_2_scv

theorem lgdiv : 32 ∣ S32x8x1024.size 0 := ⟨1, rfl⟩
theorem ixdiv : 32 ∣ S65536.size 0 := ⟨2048, rfl⟩
theorem stdiv : 32 ∣ S32x10x16.size 0 := ⟨1, rfl⟩

abbrev lgR (w : Fin 32) : Rect S32x8x1024 := Rect.part (s := S32x8x1024) (a₀ := 0) lgdiv w
abbrev ixR (w : Fin 32) : Rect S65536 := Rect.part (s := S65536) (a₀ := 0) ixdiv w
abbrev stR (w : Fin 32) : Rect S32x10x16 := Rect.part (s := S32x10x16) (a₀ := 0) stdiv w

/-- Tile `w`'s elements of the logits, the two result arrays and the statistics. -/
abbrev lgSet (w : Fin 32) : Finset S32x8x1024.Idx := (lgV.view.slice (lgR w)).set
abbrev ixSet (w : Fin 32) : Finset S65536.Idx := (ixV.view.slice (ixR w)).set
abbrev twSet (w : Fin 32) : Finset S65536.Idx := (twV.view.slice (ixR w)).set
abbrev stSet (w : Fin 32) : Finset S32x10x16.Idx := (stV.view.slice (stR w)).set

/-- The tile on subcore `s` of SparseCore `c` is number `2 s + c`. -/
def wid (L : grid1.Coords) : Fin 32 :=
  ⟨2 * (L 1).val + (L 0).val, by have h0 : (L 0).val < 2 := (L 0).isLt; have h1 : (L 1).val < 16 := (L 1).isLt; omega⟩

section Rows

variable (L : grid1.Coords)

abbrev lgRK : Rect S32x8x1024 := Rect.unit (s := S32x8x1024) (k1_off1 L) S1x8x1024.size (k1_off1_inb L)
abbrev ixRK : Rect S65536 := Rect.unit (s := S65536) (k1_off10 L) S2048.size (k1_off10_inb L)
abbrev stRK : Rect S32x10x16 := Rect.unit (s := S32x10x16) (k1_off11 L) S1x10x16.size (k1_off11_inb L)

abbrev lgK : Memref sig .scVector .hbm S8x1024 .f32 := (lgV.slice (lgRK L) (fun _ => rfl)).squeeze S8x1024 squeezes_S1x8x1024_S8x1024
abbrev ixK : Memref sig .scVector .hbm S2048 .i32 := ixV.slice (ixRK L) (fun _ => rfl)
abbrev twK : Memref sig .scVector .hbm S2048 .f32 := twV.slice (ixRK L) (fun _ => rfl)
abbrev stK : Memref sig .scVector .hbm S10x16 .f32 := (stV.slice (stRK L) (fun _ => rfl)).squeeze S10x16 squeezes_S1x10x16_S10x16

theorem lgRK_eq : lgRK L = lgR (wid L) := by
  unfold lgRK lgR Rect.part Rect.block
  congr 1 <;> funext a
  · rw [k1_off1_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]
theorem stRK_eq : stRK L = stR (wid L) := by
  unfold stRK stR Rect.part Rect.block
  congr 1 <;> funext a
  · rw [k1_off11_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]
theorem ixRK_eq : ixRK L = ixR (wid L) := by
  unfold ixRK ixR Rect.part Rect.block
  congr 1 <;> funext a
  · rw [k1_off10_eq]
    match a with
    | 0 => simp [Shape.partIx, Shape.partSize, wid]; omega
  · match a with
    | 0 => simp [Shape.partSize]

theorem set_lgK : (lgK L).view.set = lgSet (wid L) := by
  show ((lgV.view.slice (lgRK L)).reshape S8x1024 squeezes_S1x8x1024_S8x1024.numel_eq).set = _
  rw [View.set_reshape]
  exact congrArg (β := Finset S32x8x1024.Idx) (fun r : Rect S32x8x1024 => (lgV.view.slice r).set) (lgRK_eq L)
theorem set_stK : (stK L).view.set = stSet (wid L) := by
  show ((stV.view.slice (stRK L)).reshape S10x16 squeezes_S1x10x16_S10x16.numel_eq).set = _
  rw [View.set_reshape]
  exact congrArg (β := Finset S32x10x16.Idx) (fun r : Rect S32x10x16 => (stV.view.slice r).set) (stRK_eq L)
theorem set_ixK : (ixK L).view.set = ixSet (wid L) := by
  exact congrArg (β := Finset S65536.Idx) (fun r : Rect S65536 => (ixV.view.slice r).set) (ixRK_eq L)
theorem set_twK : (twK L).view.set = twSet (wid L) := by
  exact congrArg (β := Finset S65536.Idx) (fun r : Rect S65536 => (twV.view.slice r).set) (ixRK_eq L)

variable (d : Dev nD)

theorem pts_lgK (f : Buf (Elt F) (lgLoc d)) :
    ((lgK L).view.loc (V d (cV L) (jV L)) ↦[(lgK L).view.set]{fullShare} f : sProp 𝕄) = lgLoc d ↦[lgSet (wid L)]{fullShare} f := by
  rw [set_lgK]
theorem pts_ixK (f : Buf (Elt F) (ixLoc d)) :
    ((ixK L).view.loc (V d (cV L) (jV L)) ↦[(ixK L).view.set]{fullShare} f : sProp 𝕄) = ixLoc d ↦[ixSet (wid L)]{fullShare} f := by
  rw [set_ixK]
theorem pts_twK (f : Buf (Elt F) (twLoc d)) :
    ((twK L).view.loc (V d (cV L) (jV L)) ↦[(twK L).view.set]{fullShare} f : sProp 𝕄) = twLoc d ↦[twSet (wid L)]{fullShare} f := by
  rw [set_twK]
theorem pts_stK (f : Buf (Elt F) (stLoc d)) :
    ((stK L).view.loc (V d (cV L) (jV L)) ↦[(stK L).view.set]{fullShare} f : sProp 𝕄) = stLoc d ↦[stSet (wid L)]{fullShare} f := by
  rw [set_stK]

/-! ### What the transfers read and leave -/

/-- Where the transfers' views place an element. -/
theorem emb_lgK (x : Fin 8) (y : Fin 1024) : (lgK L).view.emb (ix2 x y) = ix3 (wid L) x y := by
  have he : (lgK L).view.emb (ix2 x y) = (lgRK L).emb (ix3 ⟨0, Nat.one_pos⟩ x y) := by
    show (lgRK L).emb (Shape.reshapeEquiv squeezes_S1x8x1024_S8x1024.numel_eq (ix2 x y)) = _
    rw [reshapeEquiv_ix2_1ab]
  rw [he]
  funext a
  match a with
  | 0 => exact Fin.ext (show k1_off1 L 0 + 1 * 0 = _ by rw [k1_off1_eq]; rfl)
  | 1 => exact Fin.ext (show k1_off1 L 1 + 1 * x.val = _ by rw [k1_off1_eq]; show 0 + 1 * x.val = x.val; omega)
  | 2 => exact Fin.ext (show k1_off1 L 2 + 1 * y.val = _ by rw [k1_off1_eq]; show 0 + 1 * y.val = y.val; omega)
theorem emb_stK (x : Fin 10) (y : Fin 16) : (stK L).view.emb (ix2 x y) = ix3 (wid L) x y := by
  have he : (stK L).view.emb (ix2 x y) = (stRK L).emb (ix3 ⟨0, Nat.one_pos⟩ x y) := by
    show (stRK L).emb (Shape.reshapeEquiv squeezes_S1x10x16_S10x16.numel_eq (ix2 x y)) = _
    rw [reshapeEquiv_ix2_1ab]
  rw [he]
  funext a
  match a with
  | 0 => exact Fin.ext (show k1_off11 L 0 + 1 * 0 = _ by rw [k1_off11_eq]; rfl)
  | 1 => exact Fin.ext (show k1_off11 L 1 + 1 * x.val = _ by rw [k1_off11_eq]; show 0 + 1 * x.val = x.val; omega)
  | 2 => exact Fin.ext (show k1_off11 L 2 + 1 * y.val = _ by rw [k1_off11_eq]; show 0 + 1 * y.val = y.val; omega)
theorem emb_ixRK (x : S2048.Idx) : ((ixRK L).emb x 0).val = 2048 * (wid L).val + (x 0).val := by
  show k1_off10 L 0 + 1 * (x 0).val = _
  rw [k1_off10_eq]
  show 4096 * (L 1).val + 2048 * (L 0).val + 1 * (x 0).val = 2048 * (2 * (L 1).val + (L 0).val) + (x 0).val
  omega

/-- The fetch reads the tile's block of the logits. -/
theorem read_lgK (B : Vec F S32x8x1024 .f32) : (lgK L).view.read (Elt F) B = lgRow B (wid L) := by
  funext j
  refine ((View.read_apply _ _).trans (cast_eq _ _)).trans ?_
  obtain ⟨x, y, rfl⟩ : ∃ x y, j = ix2 x y := ⟨_, _, eq_ix2 j⟩
  rw [emb_lgK]
  rfl

/-- The blocks of the call's two result arrays. -/
theorem O7_at (B : Vec F S32x8x1024 .f32) (x : S2048.Idx) (j : S65536.Idx) (hj : (j 0).val = 2048 * (wid L).val + (x 0).val) :
    O7 B j = out7 (lgRow B (wid L)) x := by
  have hx : (x 0).val < 2048 := (x 0).isLt
  unfold O7
  congr 1
  · congr 1; exact Fin.ext (by show (j 0).val / 2048 = _; omega)
  · rw [eq_ix1 x]; congr 1; exact Fin.ext (by show (j 0).val % 2048 = (x 0).val; omega)
theorem O8_at (B : Vec F S32x8x1024 .f32) (x : S2048.Idx) (j : S65536.Idx) (hj : (j 0).val = 2048 * (wid L).val + (x 0).val) :
    O8 B j = out8 (lgRow B (wid L)) x := by
  have hx : (x 0).val < 2048 := (x 0).isLt
  unfold O8
  congr 1
  · congr 1; exact Fin.ext (by show (j 0).val / 2048 = _; omega)
  · rw [eq_ix1 x]; congr 1; exact Fin.ext (by show (j 0).val % 2048 = (x 0).val; omega)

/-- A write-out of the tile's selected experts leaves its part of the array at the call's result; -/
theorem write_ixK (B : Vec F S32x8x1024 .f32) (g : Vec F S65536 .i32) :
    ∀ j ∈ (ixK L).view.set, View.write (Elt F) (ixK L).view g (out7 (lgRow B (wid L))) Finset.univ j = O7 B j := by
  intro j hj
  obtain ⟨x, -, rfl⟩ := Finset.mem_map.mp hj
  rw [View.write_emb_of_mem _ _ (Finset.mem_univ _)]
  exact (O7_at L B x _ (emb_ixRK L x)).symm
/-- of their scores, -/
theorem write_twK (B : Vec F S32x8x1024 .f32) (g : Vec F S65536 .f32) :
    ∀ j ∈ (twK L).view.set, View.write (Elt F) (twK L).view g (out8 (lgRow B (wid L))) Finset.univ j = O8 B j := by
  intro j hj
  obtain ⟨x, -, rfl⟩ := Finset.mem_map.mp hj
  rw [View.write_emb_of_mem _ _ (Finset.mem_univ _)]
  exact (O8_at L B x _ (emb_ixRK L x)).symm
/-- of its statistics. -/
theorem write_stK (B : Vec F S32x8x1024 .f32) (g : Vec F S32x10x16 .f32) :
    ∀ j ∈ (stK L).view.set, View.write (Elt F) (stK L).view g (stat (lgRow B (wid L))) Finset.univ j = OS B j := by
  intro j hj
  obtain ⟨x, -, rfl⟩ := Finset.mem_map.mp hj
  rw [View.write_emb_of_mem _ _ (Finset.mem_univ _)]
  obtain ⟨a, b, rfl⟩ : ∃ a b, x = ix2 a b := ⟨_, _, eq_ix2 x⟩
  rw [emb_stK]
  rfl

/-! ### The tile's own semaphores and buffers -/

end Rows

section Own

variable (d : Dev nD) (L : grid1.Coords)

abbrev cellA (d : Dev nD) (c : Fin τ.nSC) (i : Fin τ.nSub) : GSem nD τ sig := (V d c i, .dma cc1_scoped0.sem)
abbrev cellB (d : Dev nD) (c : Fin τ.nSC) (i : Fin τ.nSub) : GSem nD τ sig := (V d c i, .dma cc1_scoped1.sem)
abbrev cellC (d : Dev nD) (c : Fin τ.nSC) (i : Fin τ.nSub) : GSem nD τ sig := (V d c i, .dma cc1_scoped2.sem)
abbrev cellD (d : Dev nD) (c : Fin τ.nSC) (i : Fin τ.nSub) : GSem nD τ sig := (V d c i, .dma cc1_scoped3.sem)

/-- The four DMA semaphores are among the tile's own, -/
theorem ownSems0_V :
    (ownSems0 (V d (cV L) (jV L)) : sProp 𝕄)
      = iprop(semVal (cellA d (cV L) (jV L)) 0 ∗ semVal (cellB d (cV L) (jV L)) 0 ∗ semVal (cellC d (cV L) (jV L)) 0
          ∗ semVal (cellD d (cV L) (jV L)) 0
          ∗ bigSep (((((ownCells (V d (cV L) (jV L))).erase (cellA d (cV L) (jV L))).erase (cellB d (cV L) (jV L))).erase
              (cellC d (cV L) (jV L))).erase (cellD d (cV L) (jV L))) fun g => semVal g 0) := by
  unfold SparseCore.Cfg.ownSems0
  have hA : cellA d (cV L) (jV L) ∈ ownCells (V d (cV L) (jV L)) := mem_ownCells.mpr ⟨rfl, by
    show (SemLoc.dma cc1_scoped0.sem : SemLoc sig).isScoped .scVector = true; decide⟩
  have hB : cellB d (cV L) (jV L) ∈ ownCells (V d (cV L) (jV L)) := mem_ownCells.mpr ⟨rfl, by
    show (SemLoc.dma cc1_scoped1.sem : SemLoc sig).isScoped .scVector = true; decide⟩
  have hC : cellC d (cV L) (jV L) ∈ ownCells (V d (cV L) (jV L)) := mem_ownCells.mpr ⟨rfl, by
    show (SemLoc.dma cc1_scoped2.sem : SemLoc sig).isScoped .scVector = true; decide⟩
  have hD : cellD d (cV L) (jV L) ∈ ownCells (V d (cV L) (jV L)) := mem_ownCells.mpr ⟨rfl, by
    show (SemLoc.dma cc1_scoped3.sem : SemLoc sig).isScoped .scVector = true; decide⟩
  have nBA : cellB d (cV L) (jV L) ≠ cellA d (cV L) (jV L) := by simp [cellA, cellB]; decide
  have nCA : cellC d (cV L) (jV L) ≠ cellA d (cV L) (jV L) := by simp [cellA, cellC]; decide
  have nCB : cellC d (cV L) (jV L) ≠ cellB d (cV L) (jV L) := by simp [cellB, cellC]; decide
  have nDA : cellD d (cV L) (jV L) ≠ cellA d (cV L) (jV L) := by simp [cellA, cellD]; decide
  have nDB : cellD d (cV L) (jV L) ≠ cellB d (cV L) (jV L) := by simp [cellB, cellD]; decide
  have nDC : cellD d (cV L) (jV L) ≠ cellC d (cV L) (jV L) := by simp [cellC, cellD]; decide
  rw [SparseCore.bigSep_erase' hA, SparseCore.bigSep_erase' (Finset.mem_erase.mpr ⟨nBA, hB⟩),
    SparseCore.bigSep_erase' (Finset.mem_erase.mpr ⟨nCB, Finset.mem_erase.mpr ⟨nCA, hC⟩⟩),
    SparseCore.bigSep_erase' (Finset.mem_erase.mpr ⟨nDC, Finset.mem_erase.mpr ⟨nDB, Finset.mem_erase.mpr ⟨nDA, hD⟩⟩⟩)]

/-- The tile's other buffers, at some contents. -/
abbrev restBufs : sProp 𝕄 :=
  bigSep (((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5))
    fun b => iprop(∃ f, ((d, b) : Loc nD τ sig) ↦{fullShare} f)

/-- The six scratch buffers are among its own buffers. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ (∃ f, (V d (cV L) (jV L)).loc cc1_scratch4 ↦{fullShare} f) ∗ (∃ f, (V d (cV L) (jV L)).loc cc1_scratch5 ↦{fullShare} f) ∗ restBufs d L) := by
  unfold SparseCore.Cfg.ownBufs
  have ne : ∀ {b b' : Ref sig .scVector}, b ≠ b' → (Proc.scVector (cV L) (jV L)).devRef b ≠ (Proc.scVector (cV L) (jV L)).devRef b' :=
    fun h e => h (Proc.devRef_injective _ e)
  have h0 := SparseCore.Cfg.mem_ownRefs_of_owner (p := Proc.scVector (cV L) (jV L)) (b := (Proc.scVector (cV L) (jV L)).devRef cc1_scratch0) rfl
  have h1 := SparseCore.Cfg.mem_ownRefs_of_owner (p := Proc.scVector (cV L) (jV L)) (b := (Proc.scVector (cV L) (jV L)).devRef cc1_scratch1) rfl
  have h2 := SparseCore.Cfg.mem_ownRefs_of_owner (p := Proc.scVector (cV L) (jV L)) (b := (Proc.scVector (cV L) (jV L)).devRef cc1_scratch2) rfl
  have h3 := SparseCore.Cfg.mem_ownRefs_of_owner (p := Proc.scVector (cV L) (jV L)) (b := (Proc.scVector (cV L) (jV L)).devRef cc1_scratch3) rfl
  have h4 := SparseCore.Cfg.mem_ownRefs_of_owner (p := Proc.scVector (cV L) (jV L)) (b := (Proc.scVector (cV L) (jV L)).devRef cc1_scratch4) rfl
  have h5 := SparseCore.Cfg.mem_ownRefs_of_owner (p := Proc.scVector (cV L) (jV L)) (b := (Proc.scVector (cV L) (jV L)).devRef cc1_scratch5) rfl
  refine (SparseCore.bigSep_erase' h0).trans ?_
  rw [SparseCore.bigSep_erase' (Finset.mem_erase.mpr ⟨ne (by decide), h1⟩),
    SparseCore.bigSep_erase' (Finset.mem_erase.mpr ⟨ne (by decide), Finset.mem_erase.mpr ⟨ne (by decide), h2⟩⟩),
    SparseCore.bigSep_erase' (Finset.mem_erase.mpr ⟨ne (by decide), Finset.mem_erase.mpr ⟨ne (by decide), Finset.mem_erase.mpr ⟨ne (by decide), h3⟩⟩⟩),
    SparseCore.bigSep_erase' (Finset.mem_erase.mpr ⟨ne (by decide), Finset.mem_erase.mpr ⟨ne (by decide), Finset.mem_erase.mpr ⟨ne (by decide), Finset.mem_erase.mpr ⟨ne (by decide), h4⟩⟩⟩⟩),
    SparseCore.bigSep_erase' (Finset.mem_erase.mpr ⟨ne (by decide), Finset.mem_erase.mpr ⟨ne (by decide), Finset.mem_erase.mpr ⟨ne (by decide), Finset.mem_erase.mpr ⟨ne (by decide), Finset.mem_erase.mpr ⟨ne (by decide), h5⟩⟩⟩⟩⟩)]

end Own

end Cert.KernelIdeal.Gate

end
-- ==== Proof.TileRun.lean ====
/- The tile's task, run once at a symbolic pair of SparseCore and tile: from its row of the logits and its parts of the
   three results at any contents to those parts at the gate's values. -/
module

public import proofs.«01_k».proof.Proof.Rows

@[expose] public section

noncomputable section

namespace Cert.KernelIdeal.Gate

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
local notation "𝕄" => MT nD τ sig (HIx 1) (Elt F) ℕ UU ℕ

variable (d : Dev nD) (L : grid1.Coords) (B : Vec F S32x8x1024 .f32)

/-- The loop's state before trip `k`. -/
def loopInv (f1 : Vec F S2048 .i32) (f2 : Vec F S2048 .f32) (k : Nat) (A : Acc F) : sProp 𝕄 :=
  iprop(⌜A = iter (stepA (lgRow B (wid L))) acc0 k⌝ ∗ (sc0.view.loc (V d (cV L) (jV L)) ↦{fullShare} lgRow B (wid L)) ∗ (sc1.view.loc (V d (cV L) (jV L)) ↦{fullShare} iter (step7 (lgRow B (wid L))) f1 k)
    ∗ (sc2.view.loc (V d (cV L) (jV L)) ↦{fullShare} iter (step8 (lgRow B (wid L))) f2 k) ∗ (sc3.view.loc (V d (cV L) (jV L)) ↦{fullShare} iter (step9 (lgRow B (wid L))) (k1_pay75 (F := F)) k)
    ∗ (sc4.view.loc (V d (cV L) (jV L)) ↦{fullShare} iter (step10 (lgRow B (wid L))) (k1_pay75 (F := F)) k))

/-- Row `r` of the statistics scratch replaced. -/
def setRow (f : Vec F S10x16 .f32) (r : Nat) (v : Vec F S16 .f32) : Vec F S10x16 .f32 := fun j => if (j 0).val = r then v (ix1 (j 1)) else f j

theorem rows_stat (lg : Vec F S8x1024 .f32) (f : Vec F S10x16 .f32) (a0 a1 a2 a3 a4 a5 a6 a7 : Vec F S16 .f32)
    (h : (a0, a1, a2, a3, a4, a5, a6, a7) = iter (stepA lg) acc0 64) :
    setRow (setRow (setRow (setRow (setRow (setRow (setRow (setRow (setRow (setRow f (0 : Fin 10).val a0) (1 : Fin 10).val a1)
      (2 : Fin 10).val a2) (3 : Fin 10).val a3) (4 : Fin 10).val a4) (5 : Fin 10).val a5) (6 : Fin 10).val a6) (7 : Fin 10).val a7)
      (8 : Fin 10).val (iter (step9 lg) k1_pay75 64)) (9 : Fin 10).val (iter (step10 lg) k1_pay75 64) = stat lg := by
  funext j
  unfold stat accs
  rw [← h]
  obtain ⟨r, y, rfl⟩ : ∃ r y, j = ix2 r y := ⟨_, _, eq_ix2 j⟩
  match r with
  | 0 | 1 | 2 | 3 | 4 | 5 | 6 | 7 | 8 | 9 => rfl

theorem trip_inv (f1 : Vec F S2048 .i32) (f2 : Vec F S2048 .f32) (t : Fin 64) (A : Acc F) :
    loopInv d L B f1 f2 t.val A
    ⊢ wp frame (wpE (defs₀ (F := F)) 𝒱₀ (V d (cV L) (jV L)) none) Set.univ
        (k1_t1_body L lgV (Memref.isWhole_whole _) ixV (Memref.isWhole_whole _) twV (Memref.isWhole_whole _) stV (Memref.isWhole_whole _)
          sc0 (Memref.isWhole_whole _) sc1 (Memref.isWhole_whole _) sc2 (Memref.isWhole_whole _) sc3 (Memref.isWhole_whole _)
          sc4 (Memref.isWhole_whole _) sc5 (Memref.isWhole_whole _) cc1_scoped0 cc1_scoped1 cc1_scoped2 cc1_scoped3
          (iota .scVector S16 32 [0] iota_S16_d0_w32_scVector) t A)
        fun A' => loopInv d L B f1 f2 (t.val + 1) A' := by
  unfold loopInv
  simp only [iter_succ]
  iintro ⟨%hA, H⟩
  subst hA
  iapply ((trip_run d L (lgRow B (wid L)) t _ _ _ _ _).trans (wp_mono frame _ _ fun A' => .rfl)) $$ H

theorem retBind.{v} {E : Type → Type v} {α β : Type} (a : α) (k : α → Prog E β) : (Prog.ret a).bind k = k a := rfl

theorem bindEq.{v} {E : Type → Type v} {α β : Type} (x : Prog E α) (k : α → Prog E β) : x.bind k = x >>= k := rfl

/-- Writing at the whole rectangle of a view is writing at the view. -/
theorem write_rectWhole {κ : Kind} {sp : Space} {sh : Shape} {e : EltTy} (v : View sig κ sp sh e) (f : v.ty.Contents (Elt F))
    (w : sh.Idx → Elt F e) : ∀ j ∈ v.set, v.writes (Elt F) f [⟨Rect.whole sh, w⟩] j = View.write (Elt F) v f w Finset.univ j := by
  intro j hj
  obtain ⟨x, -, rfl⟩ := Finset.mem_map.mp hj
  have he : (v.slice (Rect.whole sh)).emb x = v.emb x :=
    congrArg v.emb (funext fun a => Fin.ext (show 0 + 1 * (x a).val = (x a).val by omega))
  rw [View.write_emb_of_mem _ _ (Finset.mem_univ _)]
  show (v.slice (Rect.whole sh)).write (Elt F) f w Finset.univ (v.emb x) = _
  rw [← he]
  exact View.write_emb_of_mem (v := v.slice (Rect.whole sh)) f w (Finset.mem_univ x)

theorem full3 (f v : Vec F S16 .f32) :
    (sc3.access (Rect.unit (s := S16) ![0] S16.size inb_S16_S16_0)).write (Elt F) f v Finset.univ = v :=
  Memref.write_access_unit_zero_univ (Elt F) cc1_scratch3 (funext fun a : Fin 1 => by obtain rfl : a = 0 := Subsingleton.elim _ _; rfl) _ f v

theorem full4 (f v : Vec F S16 .f32) :
    (sc4.access (Rect.unit (s := S16) ![0] S16.size inb_S16_S16_0)).write (Elt F) f v Finset.univ = v :=
  Memref.write_access_unit_zero_univ (Elt F) cc1_scratch4 (funext fun a : Fin 1 => by obtain rfl : a = 0 := Subsingleton.elim _ _; rfl) _ f v

theorem wp_ld3 {α : Type} {f : Vec F S16 .f32} {hl : sc3.view.LoadsAt (Rect.unit (s := S16) ![0] S16.size inb_S16_S16_0).toLoadRect}
    {k : Vec F S16 .f32 → Prog (TpuEff nD τ sig (Elt F) Λ₀ (.scVector (cV L) (jV L))) α} {Q : α → sProp 𝕄} :
    ((sc3.view.loc (V d (cV L) (jV L)) ↦{fullShare} f) : sProp 𝕄) ⊢ iprop(((sc3.view.loc (V d (cV L) (jV L)) ↦{fullShare} f) -∗ wp frame (wpE (defs₀ (F := F)) 𝒱₀ (V d (cV L) (jV L)) none) Set.univ (k f) Q)
      -∗ wp frame (wpE (defs₀ (F := F)) 𝒱₀ (V d (cV L) (jV L)) none) Set.univ (.op (.load sc3 (Rect.unit (s := S16) ![0] S16.size inb_S16_S16_0).toLoadRect hl) k) Q) := by
  have he : sc3.view.readAt (Elt F) (Rect.unit (s := S16) ![0] S16.size inb_S16_S16_0).toLoadRect f = f :=
    Memref.readAt_unit_zero (Elt F) cc1_scratch3 (funext fun a : Fin 1 => by obtain rfl : a = 0 := Subsingleton.elim _ _; rfl) _ f
  iintro H Hk
  iapply (wp_load 𝒱₀ (V d (cV L) (jV L)) none Set.univ (m := sc3) (S := Finset.univ) (Finset.subset_univ _)) $$ H
  rw [he]
  iexact Hk

theorem wp_st3 {α : Type} {f v : Vec F S16 .f32} {hx : (sc3.access (Rect.unit (s := S16) ![0] S16.size inb_S16_S16_0)).Stores Finset.univ} {hm : _}
    {k : PUnit → Prog (TpuEff nD τ sig (Elt F) Λ₀ (.scVector (cV L) (jV L))) α} {Q : α → sProp 𝕄} :
    ((sc3.view.loc (V d (cV L) (jV L)) ↦{fullShare} f) : sProp 𝕄) ⊢ iprop(((sc3.view.loc (V d (cV L) (jV L)) ↦{fullShare} v) -∗ wp frame (wpE (defs₀ (F := F)) 𝒱₀ (V d (cV L) (jV L)) none) Set.univ (k ⟨⟩) Q)
      -∗ wp frame (wpE (defs₀ (F := F)) 𝒱₀ (V d (cV L) (jV L)) none) Set.univ (.op (.store sc3 (Rect.unit (s := S16) ![0] S16.size inb_S16_S16_0) v Finset.univ hx hm) k) Q) := by
  have he : (sc3.access (Rect.unit (s := S16) ![0] S16.size inb_S16_S16_0)).write (Elt F) f v Finset.univ = v :=
    Memref.write_access_unit_zero_univ (Elt F) cc1_scratch3 (funext fun a : Fin 1 => by obtain rfl : a = 0 := Subsingleton.elim _ _; rfl) _ f v
  iintro H Hk
  iapply (wp_store 𝒱₀ (V d (cV L) (jV L)) none Set.univ (m := sc3) (r := Rect.unit (s := S16) ![0] S16.size inb_S16_S16_0) (S := Finset.univ) (Finset.subset_univ _)) $$ H
  rw [he]
  iexact Hk

theorem wp_ld4 {α : Type} {f : Vec F S16 .f32} {hl : sc4.view.LoadsAt (Rect.unit (s := S16) ![0] S16.size inb_S16_S16_0).toLoadRect}
    {k : Vec F S16 .f32 → Prog (TpuEff nD τ sig (Elt F) Λ₀ (.scVector (cV L) (jV L))) α} {Q : α → sProp 𝕄} :
    ((sc4.view.loc (V d (cV L) (jV L)) ↦{fullShare} f) : sProp 𝕄) ⊢ iprop(((sc4.view.loc (V d (cV L) (jV L)) ↦{fullShare} f) -∗ wp frame (wpE (defs₀ (F := F)) 𝒱₀ (V d (cV L) (jV L)) none) Set.univ (k f) Q)
      -∗ wp frame (wpE (defs₀ (F := F)) 𝒱₀ (V d (cV L) (jV L)) none) Set.univ (.op (.load sc4 (Rect.unit (s := S16) ![0] S16.size inb_S16_S16_0).toLoadRect hl) k) Q) := by
  have he : sc4.view.readAt (Elt F) (Rect.unit (s := S16) ![0] S16.size inb_S16_S16_0).toLoadRect f = f :=
    Memref.readAt_unit_zero (Elt F) cc1_scratch4 (funext fun a : Fin 1 => by obtain rfl : a = 0 := Subsingleton.elim _ _; rfl) _ f
  iintro H Hk
  iapply (wp_load 𝒱₀ (V d (cV L) (jV L)) none Set.univ (m := sc4) (S := Finset.univ) (Finset.subset_univ _)) $$ H
  rw [he]
  iexact Hk

theorem wp_st4 {α : Type} {f v : Vec F S16 .f32} {hx : (sc4.access (Rect.unit (s := S16) ![0] S16.size inb_S16_S16_0)).Stores Finset.univ} {hm : _}
    {k : PUnit → Prog (TpuEff nD τ sig (Elt F) Λ₀ (.scVector (cV L) (jV L))) α} {Q : α → sProp 𝕄} :
    ((sc4.view.loc (V d (cV L) (jV L)) ↦{fullShare} f) : sProp 𝕄) ⊢ iprop(((sc4.view.loc (V d (cV L) (jV L)) ↦{fullShare} v) -∗ wp frame (wpE (defs₀ (F := F)) 𝒱₀ (V d (cV L) (jV L)) none) Set.univ (k ⟨⟩) Q)
      -∗ wp frame (wpE (defs₀ (F := F)) 𝒱₀ (V d (cV L) (jV L)) none) Set.univ (.op (.store sc4 (Rect.unit (s := S16) ![0] S16.size inb_S16_S16_0) v Finset.univ hx hm) k) Q) := by
  have he : (sc4.access (Rect.unit (s := S16) ![0] S16.size inb_S16_S16_0)).write (Elt F) f v Finset.univ = v :=
    Memref.write_access_unit_zero_univ (Elt F) cc1_scratch4 (funext fun a : Fin 1 => by obtain rfl : a = 0 := Subsingleton.elim _ _; rfl) _ f v
  iintro H Hk
  iapply (wp_store 𝒱₀ (V d (cV L) (jV L)) none Set.univ (m := sc4) (r := Rect.unit (s := S16) ![0] S16.size inb_S16_S16_0) (S := Finset.univ) (Finset.subset_univ _)) $$ H
  rw [he]
  iexact Hk

/-- A row of the statistics scratch loaded and stored: the row is replaced. -/
theorem wp_row {α : Type} {f : Vec F S10x16 .f32} {v : Vec F S16 .f32} (r : Fin 10) {off : Fin 2 → Nat} (hoff : off = ![r.val, 0])
    (inb : ∀ a, off a + S1x16.size a ≤ S10x16.size a)
    {hl : sc5.view.LoadsAt (Rect.unit (s := S10x16) off S1x16.size inb).toLoadRect}
    {hx : (sc5.access (Rect.unit (s := S10x16) off S1x16.size inb)).Stores Finset.univ} {hm : _}
    {k : PUnit → Prog (TpuEff nD τ sig (Elt F) Λ₀ (.scVector (cV L) (jV L))) α} {Q : α → sProp 𝕄} :
    ((sc5.view.loc (V d (cV L) (jV L)) ↦{fullShare} f) : sProp 𝕄) ⊢ iprop(((sc5.view.loc (V d (cV L) (jV L)) ↦{fullShare} setRow f r.val v) -∗ wp frame (wpE (defs₀ (F := F)) 𝒱₀ (V d (cV L) (jV L)) none) Set.univ (k ⟨⟩) Q)
      -∗ wp frame (wpE (defs₀ (F := F)) 𝒱₀ (V d (cV L) (jV L)) none) Set.univ (.op (.load sc5 (Rect.unit (s := S10x16) off S1x16.size inb).toLoadRect hl) fun _ =>
          .op (.store sc5 (Rect.unit (s := S10x16) off S1x16.size inb) (shapeCast S1x16 v shapeCasts_S16_S1x16) Finset.univ hx hm) k) Q) := by
  have he : (sc5.access (Rect.unit (s := S10x16) off S1x16.size inb)).write (Elt F) f (shapeCast S1x16 v shapeCasts_S16_S1x16) Finset.univ
      = setRow f r.val v := by
    subst hoff
    funext j
    unfold setRow
    by_cases hj : (j 0).val = r.val
    · rw [if_pos hj]
      have hemb : (sc5.access (Rect.unit (s := S10x16) ![r.val, 0] S1x16.size inb)).emb (ix2 (0 : Fin 1) (j 1) : S1x16.Idx) = j := by
        funext a
        match a with
        | 0 => exact Fin.ext (show r.val + 1 * 0 = (j 0).val by omega)
        | 1 => exact Fin.ext (show 0 + 1 * (j 1).val = (j 1).val by omega)
      conv_lhs => rw [← hemb]
      rw [View.write_emb_of_mem _ _ (Finset.mem_univ _)]
      exact (cast_eq _ _).trans (shapeCast_a_1a_apply v _ 0 (j 1))
    · rw [if_neg hj]
      refine View.write_of_not_mem (Val := Elt F) _ _ _ (fun hm => hj ?_)
      obtain ⟨x, -, rfl⟩ := Finset.mem_map.mp hm
      have hx0 : (x 0).val < 1 := (x 0).isLt
      show r.val + 1 * (x 0).val = r.val
      omega
  iintro H Hk
  iapply (wp_load 𝒱₀ (V d (cV L) (jV L)) none Set.univ (m := sc5) (S := Finset.univ) (Finset.subset_univ _)) $$ H; iintro H
  iapply (wp_store 𝒱₀ (V d (cV L) (jV L)) none Set.univ (m := sc5) (r := Rect.unit (s := S10x16) off S1x16.size inb) (S := Finset.univ) (Finset.subset_univ _)) $$ H
  rw [he]
  iexact Hk

set_option maxHeartbeats 4000000 in
theorem tile_body (hF : (K (F := F)).Facts) (O : CellTallies nD τ sig (HIx 1)) (W : Waits sig (HIx 1)) (hO : ∀ g, O g none = 0)
    (g7 : Buf (Elt F) (ixLoc d)) (g8 : Buf (Elt F) (twLoc d)) (gs : Buf (Elt F) (stLoc d)) :
    (iprop(levAts (K (F := F)).L (K (F := F)).lev ∗ emp
        ∗ ((lgLoc d ↦[lgSet (wid L)]{fullShare} B) ∗ (ixLoc d ↦[ixSet (wid L)]{fullShare} g7)
          ∗ (twLoc d ↦[twSet (wid L)]{fullShare} g8) ∗ (stLoc d ↦[stSet (wid L)]{fullShare} gs))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_gate L lgV (Memref.isWhole_whole _) ixV (Memref.isWhole_whole _) twV (Memref.isWhole_whole _) stV (Memref.isWhole_whole _)
            sc0 (Memref.isWhole_whole _) sc1 (Memref.isWhole_whole _) sc2 (Memref.isWhole_whole _) sc3 (Memref.isWhole_whole _)
            sc4 (Memref.isWhole_whole _) sc5 (Memref.isWhole_whole _) cc1_scoped0 cc1_scoped1 cc1_scoped2 cc1_scoped3)
          fun _ => iprop(((lgLoc d ↦[lgSet (wid L)]{fullShare} B) ∗ (ixLoc d ↦[ixSet (wid L)]{fullShare} O7 B)
              ∗ (twLoc d ↦[twSet (wid L)]{fullShare} O8 B) ∗ (stLoc d ↦[stSet (wid L)]{fullShare} OS B))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc1_gate_eq_skeleton]; unfold cc1_gate_skel; rw [k1_part4_eq_skeleton, k1_part5_eq_skeleton]; unfold k1_part4_skel
  rw [(K (F := F)).scopedBufs_V hF d (cV L) (jV L), SparseCore.Cfg.scopedSems0_V (Val := Elt F) d (cV L) (jV L), ownSems0_V, ownBufs_V]
  iintro ⟨#Hlv, -, ⟨Hlg, H7, H8, Hst⟩, ⟨⟨%f0, S0⟩, ⟨%f1, S1⟩, ⟨%f2, S2⟩, ⟨%f3, S3⟩, ⟨%f4, S4⟩, ⟨%f5, S5⟩, Hbufs⟩, ⟨HsemA, HsemB, HsemC, HsemD, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hlg' := (Entails.of_eq (pts_lgK (F := F) L d _).symm) $$ Hlg
  ihave S0' := (show ((V d (cV L) (jV L)).loc cc1_scratch0 ↦{fullShare} f0 : sProp 𝕄) ⊢ (sc0.view.loc (V d (cV L) (jV L)) ↦{fullShare} f0) from .rfl) $$ S0
  ihave S3' := (show ((V d (cV L) (jV L)).loc cc1_scratch3 ↦{fullShare} f3 : sProp 𝕄) ⊢ (sc3.view.loc (V d (cV L) (jV L)) ↦{fullShare} f3) from .rfl) $$ S3
  ihave S4' := (show ((V d (cV L) (jV L)).loc cc1_scratch4 ↦{fullShare} f4 : sProp 𝕄) ⊢ (sc4.view.loc (V d (cV L) (jV L)) ↦{fullShare} f4) from .rfl) $$ S4
  ihave S5' := (show ((V d (cV L) (jV L)).loc cc1_scratch5 ↦{fullShare} f5 : sProp 𝕄) ⊢ (sc5.view.loc (V d (cV L) (jV L)) ↦{fullShare} f5) from .rfl) $$ S5
  ihave S1' := (show ((V d (cV L) (jV L)).loc cc1_scratch1 ↦{fullShare} f1 : sProp 𝕄) ⊢ (sc1.view.loc (V d (cV L) (jV L)) ↦{fullShare} f1) from .rfl) $$ S1
  ihave S2' := (show ((V d (cV L) (jV L)).loc cc1_scratch2 ↦{fullShare} f2 : sProp 𝕄) ⊢ (sc2.view.loc (V d (cV L) (jV L)) ↦{fullShare} f2) from .rfl) $$ S2
  sl_exec
  have hS0 : View.write (Elt F) sc0.view f0 (tile_body.sl.dma0 L B) Finset.univ = lgRow B (wid L) :=
    (View.write_whole_univ (Val := Elt F) cc1_scratch0 f0 _).trans (read_lgK L B)
  rw [hS0]
  have hS3 : sc3.view.writes (Elt F) f3 [⟨Rect.unit ![0] S16.size inb_S16_S16_0, k1_pay75⟩] = k1_pay75 := full3 f3 _
  have hS4 : sc4.view.writes (Elt F) f4 [⟨Rect.unit ![0] S16.size inb_S16_S16_0, k1_pay75⟩] = k1_pay75 := full4 f4 _
  rw [hS3, hS4, bind_assoc]
  sl_for (loopInv d L B f1 f2) $$ [S0' S1' S2' S3' S4']
  case region =>
    intro t A
    exact trip_inv d L B f1 f2 t A
  · unfold loopInv
    isplitr
    · ipureintro; rfl
    isplitl [S0']; · iexact S0'
    isplitl [S1']; · iexact S1'
    isplitl [S2']; · iexact S2'
    isplitl [S3']; · iexact S3'
    iexact S4'
  iintro %A HI
  obtain ⟨a0, a1, a2, a3, a4, a5, a6, a7⟩ := A
  unfold loopInv
  icases HI with ⟨%hA, S0', S1', S2', S3', S4'⟩
  iapply (wp_row d L 0 rfl _) $$ S5'; iintro S5'
  iapply (wp_row d L 1 rfl _) $$ S5'; iintro S5'
  iapply (wp_row d L 2 rfl _) $$ S5'; iintro S5'
  iapply (wp_row d L 3 rfl _) $$ S5'; iintro S5'
  iapply (wp_row d L 4 rfl _) $$ S5'; iintro S5'
  iapply (wp_row d L 5 rfl _) $$ S5'; iintro S5'
  iapply (wp_row d L 6 rfl _) $$ S5'; iintro S5'
  iapply (wp_row d L 7 rfl _) $$ S5'; iintro S5'
  iapply (wp_ld3 d L) $$ S3'; iintro S3'
  iapply (wp_row d L 8 rfl _) $$ S5'; iintro S5'
  iapply (wp_ld4 d L) $$ S4'; iintro S4'
  iapply (wp_row d L 9 rfl _) $$ S5'; iintro S5'
  beta_reduce
  rw [retBind]
  ihave H7' := (Entails.of_eq (pts_ixK (F := F) L d _).symm) $$ H7
  ihave H8' := (Entails.of_eq (pts_twK (F := F) L d _).symm) $$ H8
  ihave Hst' := (Entails.of_eq (pts_stK (F := F) L d _).symm) $$ Hst
  have ht : Scf.trips k1_t1_loop.lb k1_t1_loop.ub k1_t1_loop.st = 64 := by decide
  rw [ht] at hA
  rw [ht, iter_step7, iter_step8, rows_stat (lgRow B (wid L)) f5 a0 a1 a2 a3 a4 a5 a6 a7 hA]
  rw [bindEq]
  sl_exec
  have hO7 : ∀ j ∈ (ixK L).view.set, (ixK L).view.writes (Elt F) g7 [⟨Rect.whole _, tile_body.sl.dma0_1 L B⟩] j = O7 B j := fun j hj =>
    (write_rectWhole (ixK L).view g7 _ j hj).trans (write_ixK L B g7 j hj)
  have hE7 := (pointsTo_congr (ℓ := (ixK L).view.loc (V d (cV L) (jV L))) (q := fullShare) (Ix := HIx 1) (U := UU) (Name := ℕ) (Lvl := ℕ) hO7).trans (pts_ixK (F := F) L d _)
  ihave H7 := (Entails.of_eq hE7) $$ H7'
  have hO8 : ∀ j ∈ (twK L).view.set, (twK L).view.writes (Elt F) g8 [⟨Rect.whole _, tile_body.sl.dma0_2 L B⟩] j = O8 B j := fun j hj =>
    (write_rectWhole (twK L).view g8 _ j hj).trans (write_twK L B g8 j hj)
  have hE8 := (pointsTo_congr (ℓ := (twK L).view.loc (V d (cV L) (jV L))) (q := fullShare) (Ix := HIx 1) (U := UU) (Name := ℕ) (Lvl := ℕ) hO8).trans (pts_twK (F := F) L d _)
  ihave H8 := (Entails.of_eq hE8) $$ H8'
  have hO9 : ∀ j ∈ (stK L).view.set, (stK L).view.writes (Elt F) gs [⟨Rect.whole _, tile_body.sl.dma0_3 L B⟩] j = OS B j := fun j hj =>
    (write_rectWhole (stK L).view gs _ j hj).trans (write_stK L B gs j hj)
  have hE9 := (pointsTo_congr (ℓ := (stK L).view.loc (V d (cV L) (jV L))) (q := fullShare) (Ix := HIx 1) (U := UU) (Name := ℕ) (Lvl := ℕ) hO9).trans (pts_stK (F := F) L d _)
  ihave Hst := (Entails.of_eq hE9) $$ Hst'
  have hlg := pts_lgK (F := F) L d B
  ihave Hlg := (Entails.of_eq hlg) $$ Hlg'
  rw [wp_ret]
  iapply fupd_intro (PROP := sProp 𝕄)
  isplitl [Hlg H7 H8 Hst]
  · isplitl [Hlg]; · iexact Hlg
    isplitl [H7]; · iexact H7
    isplitl [H8]; · iexact H8
    iexact Hst
  isplitl [S0' S1' S2' S3' S4' S5' Hbufs]
  · isplitl [S0']; · iexists _; iexact S0'
    isplitl [S1']; · iexists _; iexact S1'
    isplitl [S2']; · iexists _; iexact S2'
    isplitl [S3']; · iexists _; iexact S3'
    isplitl [S4']; · iexists _; iexact S4'
    isplitl [S5']; · iexists _; iexact S5'
    iexact Hbufs
  isplitl [HsemA HsemB HsemC HsemD Hsems]
  · isplitl [HsemA]; · iexact HsemA
    isplitl [HsemB]; · iexact HsemB
    isplitl [HsemC]; · iexact HsemC
    isplitl [HsemD]; · iexact HsemD
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.KernelIdeal.Gate

end
-- ==== Proof.Launch.lean ====
/- What the one SparseCore call takes and hands back — the logits at given contents, and the three results' arrays — in the
   tiles' parts; each tile's obligation, by its run; and the arrays split into and joined from the parts. -/
module

public import proofs.«01_k».proof.Proof.TileRun

@[expose] public section

noncomputable section

namespace Cert.KernelIdeal.Gate

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
local notation "𝕄" => MT nD τ sig (HIx 1) (Elt F) ℕ UU ℕ

variable (B : (d : Dev nD) → Buf (Elt F) (lgLoc d)) (g7 : (d : Dev nD) → Buf (Elt F) (ixLoc d))
  (g8 : (d : Dev nD) → Buf (Elt F) (twLoc d)) (gs : (d : Dev nD) → Buf (Elt F) (stLoc d))

/-- Tile `w`'s parts of the four arrays. -/
abbrev part4 (d : Dev nD) (w : Fin 32) (b : Buf (Elt F) (lgLoc d)) (f7 : Buf (Elt F) (ixLoc d)) (f8 : Buf (Elt F) (twLoc d)) (fs : Buf (Elt F) (stLoc d)) : sProp 𝕄 :=
  iprop((lgLoc d ↦[lgSet w]{fullShare} b) ∗ (ixLoc d ↦[ixSet w]{fullShare} f7) ∗ (twLoc d ↦[twSet w]{fullShare} f8) ∗ (stLoc d ↦[stSet w]{fullShare} fs))

/-- The four arrays whole. -/
abbrev whole4 (d : Dev nD) (b : Buf (Elt F) (lgLoc d)) (f7 : Buf (Elt F) (ixLoc d)) (f8 : Buf (Elt F) (twLoc d)) (fs : Buf (Elt F) (stLoc d)) : sProp 𝕄 :=
  iprop((lgLoc d ↦{fullShare} b) ∗ (ixLoc d ↦{fullShare} f7) ∗ (twLoc d ↦{fullShare} f8) ∗ (stLoc d ↦{fullShare} fs))

/-- The tile on subcore `i` of SparseCore `c`, by their numbers. -/
def tileOf (c i : ℕ) : Fin 32 := ⟨(2 * i + c) % 32, Nat.mod_lt _ (by decide)⟩

abbrev tin (d : Dev nD) (w : Fin 32) : sProp 𝕄 := part4 d w (B d) (g7 d) (g8 d) (gs d)
abbrev tout (d : Dev nD) (w : Fin 32) : sProp 𝕄 := part4 d w (B d) (O7 (B d)) (O8 (B d)) (OS (B d))

def P : (K (F := F)).Pay (nD := nD) (Val := Elt F) (Name := ℕ) (U := UU) where
  st := fun q d c => match q with | 0 => bigSep Finset.univ fun i : Fin 16 => tin B g7 g8 gs d (tileOf c.val i.val)
  dn := fun q d c => match q with | 0 => bigSep Finset.univ fun i : Fin 16 => tout B d (tileOf c.val i.val)
  go := fun q d c i => match q with | 0 => tin B g7 g8 gs d (tileOf c.val i.val)
  td := fun q d c i => match q with | 0 => tout B d (tileOf c.val i.val)
  x := fun _ _ => iprop(emp)

instance P_storable : (P B g7 g8 gs).IsStorable where
  st q d c := match q with
    | 0 => (inferInstance : BI.Storable (upEmb : UEmb _ 𝕄) (bigSep Finset.univ fun i : Fin 16 => tin B g7 g8 gs d (tileOf c.val i.val)))
  dn q d c := match q with
    | 0 => (inferInstance : BI.Storable (upEmb : UEmb _ 𝕄) (bigSep Finset.univ fun i : Fin 16 => tout B d (tileOf c.val i.val)))
  go q d c i := match q with | 0 => (inferInstance : BI.Storable (upEmb : UEmb _ 𝕄) (tin B g7 g8 gs d (tileOf c.val i.val)))
  td q d c i := match q with | 0 => (inferInstance : BI.Storable (upEmb : UEmb _ 𝕄) (tout B d (tileOf c.val i.val)))

/-! ## The tiles' obligation -/

def coordsV (c : Fin (grid1.bound 0)) (s : Fin (grid1.bound 1)) : grid1.Coords :=
  fun | 0 => c | 1 => s | ⟨_ + 2, h⟩ => absurd h (Nat.not_lt.2 (Nat.le_add_left _ _))

theorem wid_coordsV (c : Fin (grid1.bound 0)) (s : Fin (grid1.bound 1)) : wid (coordsV c s) = tileOf c.val s.val := by
  have h0 : c.val < 2 := c.isLt
  have h1 : s.val < 16 := s.isLt
  exact Fin.ext (Nat.mod_eq_of_lt (show 2 * s.val + c.val < 32 by omega)).symm

theorem defs₀_vector (c : Fin τ.nSC) (s : Fin τ.nSub) :
    defs₀ (F := F) (.scVector c s) 1 ()
      = SparseCore.onTile hcore1 hsub1 (fun c s => cc1_gate (coordsV c s)
          lgV (Memref.isWhole_whole _) ixV (Memref.isWhole_whole _) twV (Memref.isWhole_whole _) stV (Memref.isWhole_whole _)
          sc0 (Memref.isWhole_whole _) sc1 (Memref.isWhole_whole _) sc2 (Memref.isWhole_whole _) sc3 (Memref.isWhole_whole _)
          sc4 (Memref.isWhole_whole _) sc5 (Memref.isWhole_whole _) cc1_scoped0 cc1_scoped1 cc1_scoped2 cc1_scoped3) ⟨⟩ c s := rfl

theorem obl_post {thr : Thread nD τ} {A B' C : sProp 𝕄} {O : CellTallies nD τ sig (HIx 1)} {W : Waits sig (HIx 1)} {q : Fin 1} :
    iprop(A ∗ B' ∗ C ∗ ∃ W', ⌜∀ p ∈ W', p ∈ W ∨ p.2 = none⌝ ∗ owes thr O W')
      ⊢ iprop(A ∗ B' ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P B g7 g8 gs) v₀ 0 := by
  intro d c i O W hO _ _
  simp only [show (P B g7 g8 gs).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := tile_body (F := F) d (coordsV ⟨_, hci.1⟩ ⟨_, hci.2⟩) (B d) launchFacts O W hO (g7 d) (g8 d) (gs d)
  rw [wid_coordsV] at h
  exact h.trans (wp_mono frame _ _ fun _ => obl_post)

theorem vecSplit : (K (F := F)).VecSplit' (P B g7 g8 gs) 0 := by
  intro d c
  show (bigSep Finset.univ fun i : Fin 16 => tin B g7 g8 gs d (tileOf c.val i.val)) ⊢ |={Set.univ}=> iprop(
      (bigSep Finset.univ fun i : Fin 16 => tin B g7 g8 gs d (tileOf c.val i.val))
      ∗ ((bigSep Finset.univ fun i : Fin 16 => tout B d (tileOf c.val i.val)) -∗ (bigSep Finset.univ fun i : Fin 16 => tout B d (tileOf c.val i.val))))
  iintro H; imodintro
  isplitl [H]; · iexact H
  iintro H; iexact H

/-! ## The arrays and the tiles' parts -/

theorem lgSet_eq (w : Fin 32) : lgSet w = (lgR w).set := by
  show ((View.whole (main_v1_scv : Ref sig .scVector)).slice (lgR w)).set = _
  rw [View.set_slice]; exact Finset.map_refl
theorem ixSet_eq (w : Fin 32) : ixSet w = (ixR w).set := by
  show ((View.whole (main_v2_0_scv : Ref sig .scVector)).slice (ixR w)).set = _
  rw [View.set_slice]; exact Finset.map_refl
theorem twSet_eq (w : Fin 32) : twSet w = (ixR w).set := by
  show ((View.whole (main_v2_1_scv : Ref sig .scVector)).slice (ixR w)).set = _
  rw [View.set_slice]; exact Finset.map_refl
theorem stSet_eq (w : Fin 32) : stSet w = (stR w).set := by
  show ((View.whole (main_v2_2_scv : Ref sig .scVector)).slice (stR w)).set = _
  rw [View.set_slice]; exact Finset.map_refl

theorem pts_parts {ℓ : Loc nD τ sig} (set : Fin 32 → Finset ℓ.2.ty.Idx) (hd : ∀ i j, i ≠ j → Disjoint (set i) (set j))
    (hc : (Finset.univ : Finset (Fin 32)).biUnion set = Finset.univ) (f : Buf (Elt F) ℓ) :
    (ℓ ↦{fullShare} f : sProp 𝕄) = bigSep Finset.univ fun w : Fin 32 => ℓ ↦[set w]{fullShare} f := by
  rw [← pointsTo_biUnion Finset.univ (ℓ := ℓ) set (fun i _ j _ h => hd i j h), hc]

theorem whole4_parts (d : Dev nD) (b : Buf (Elt F) (lgLoc d)) (f7 : Buf (Elt F) (ixLoc d)) (f8 : Buf (Elt F) (twLoc d)) (fs : Buf (Elt F) (stLoc d)) :
    (whole4 d b f7 f8 fs : sProp 𝕄) = bigSep Finset.univ fun w : Fin 32 => part4 d w b f7 f8 fs := by
  unfold whole4 part4
  rw [bigSep_sep', bigSep_sep', bigSep_sep',
    pts_parts (ℓ := lgLoc d) lgSet (fun i j h => by rw [lgSet_eq, lgSet_eq]; exact Rect.part_disjoint lgdiv h)
      ((Finset.biUnion_congr rfl fun i _ => lgSet_eq i).trans (Rect.biUnion_part lgdiv)),
    pts_parts (ℓ := ixLoc d) ixSet (fun i j h => by rw [ixSet_eq, ixSet_eq]; exact Rect.part_disjoint ixdiv h)
      ((Finset.biUnion_congr rfl fun i _ => ixSet_eq i).trans (Rect.biUnion_part ixdiv)),
    pts_parts (ℓ := twLoc d) twSet (fun i j h => by rw [twSet_eq, twSet_eq]; exact Rect.part_disjoint ixdiv h)
      ((Finset.biUnion_congr rfl fun i _ => twSet_eq i).trans (Rect.biUnion_part ixdiv)),
    pts_parts (ℓ := stLoc d) stSet (fun i j h => by rw [stSet_eq, stSet_eq]; exact Rect.part_disjoint stdiv h)
      ((Finset.biUnion_congr rfl fun i _ => stSet_eq i).trans (Rect.biUnion_part stdiv))]

/-- The tiles by SparseCore and subcore. -/
theorem bigSep_tiles (Φ : Fin 32 → sProp 𝕄) :
    (bigSep Finset.univ fun c : Fin 2 => bigSep Finset.univ fun i : Fin 16 => Φ (tileOf c.val i.val)) = bigSep Finset.univ Φ := by
  rw [bigSep_univ_equiv ((Equiv.prodComm (Fin 2) (Fin 16)).trans (finProdFinEquiv : Fin 16 × Fin 2 ≃ Fin 32)) Φ, bigSep_univ_prod]
  refine bigSep_congr fun c _ => bigSep_congr fun i _ => congrArg Φ (Fin.ext ?_)
  show (2 * i.val + c.val) % 32 = c.val + 2 * i.val
  have := c.isLt; have := i.isLt; omega

theorem st0_eq (d : Dev nD) : (bigSep Finset.univ fun c : Fin ((K (F := F)).nCore 0) => (P B g7 g8 gs).st 0 d c) = whole4 d (B d) (g7 d) (g8 d) (gs d) :=
  (bigSep_tiles fun w => tin B g7 g8 gs d w).trans (whole4_parts d _ _ _ _).symm
theorem dn0_eq (d : Dev nD) : (bigSep Finset.univ fun c : Fin ((K (F := F)).nCore 0) => (P B g7 g8 gs).dn 0 d c) = whole4 d (B d) (O7 (B d)) (O8 (B d)) (OS (B d)) :=
  (bigSep_tiles fun w => tout B d w).trans (whole4_parts d _ _ _ _).symm

end Cert.KernelIdeal.Gate

end
-- ==== Proof.Region.lean ====
/- A kernel region of @main inside the SparseCore program: entered from the TensorCore's state between calls (what it owes
   of the later calls' signals, which the region's own waits sit below) and the unscoped buffers at a valuation, left at the
   valuation with the region's results written. Stated once for both regions. -/
module

public import proofs.«01_k».proof.Proof.Setup
public import proofs.«01_k».proof.Proof.Gen.KernelIdeal.Points
public import proofs.«01_k».proof.Proof.Gen.KernelIdeal.Skeleton
public import proofs.«01_k».proof.Proof.Gen.KernelIdeal.Launch
public import Idealize.ShloMosaic.Lib.Pipeline.RegionsLoop
public import Idealize.ShloMosaic.Lib.Pipeline.FrameBody
public import Idealize.ShloMosaic.Lib.Pipeline.Value
public import Idealize.ShloMosaic.Lib.VecWindow

@[expose] public section

noncomputable section

namespace Cert.KernelIdeal.Gate

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation cellOf)

variable {F : FTy → Type} [FloatOps F] [Named F]

local notation "𝕄" => MT nD τ sig (HIx 1) (Elt F) ℕ UU ℕ

/-- The pipelines' algebra in the certificate's. -/
def EP : Emb UP (MT nD τ sig (HIx 1) (Elt F) ℕ UU ℕ) := (Emb.inl : Emb UP (UP × Counters)).trans embR
instance EP_landsIn : (EP (F := F)).LandsIn (upEmb : UEmb _ (MT nD τ sig (HIx 1) (Elt F) ℕ UU ℕ)) := by unfold EP embR; infer_instance

abbrev adm : (p : Fin 2) → (pcfgs (F := F) p).Adm := fun p => (cfgs p).toPCfg_adm

theorem Otc_none (d : Dev nD) (n : ℕ) (g : GSem nD τ sig) : (K (F := F)).Otc (N := 1) d n g none = 0 := by
  unfold SparseCore.Cfg.Otc
  rw [Finset.sum_apply, Finsupp.finsetSum_apply]
  refine Finset.sum_eq_zero fun q _ => ?_
  split
  · rw [Finset.sum_apply, Finsupp.finsetSum_apply]
    refine Finset.sum_eq_zero fun c _ => ?_
    rw [tallyAt_apply, if_neg]
    rintro ⟨-, h⟩
    cases h
  · rfl

/-- The pairs the TensorCore may have recorded before call `n`. -/
def Bset (d : Dev nD) (n : ℕ) : Set (SemLoc sig × HIx 1) := {p | (K (F := F)).lev (T d, p.1) p.2 ≤ 8 * SparseCore.Cfg.Blocks.fst (Q := 1) (N := 1) n}

/-! ## The bodies, run -/

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev ptT (c : Dev nD) {sp : Space} {S : Shape} {e : EltTy} (M : Memref sig .tc sp S e) (f : Bf (F := F) c M) : sProp 𝕄 :=
  M.view.loc (c : Thread nD τ) ↦{fullShare} f

/-- The logits kernel at a point: run from the three staging buffers held whole, it leaves the operands' as they were and
    the result's reading the payload at what the operands' read. -/
theorem run0 (c : Dev nD) (i : grid0.Coords) (M0 : Memref sig .tc .vmem S8x12 .f32) (h0 : M0.IsWhole) (M1 : Memref sig .tc .vmem S1024x12 .f32) (h1 : M1.IsWhole)
    (M2 : Memref sig .tc .vmem S1x8x1024 .f32) (h2 : M2.IsWhole) (f0 : Bf (F := F) c M0) (f1 : Bf (F := F) c M1) (f2 : Bf (F := F) c M2) (Q : PUnit → sProp 𝕄) :
    (iprop(ptT c M0 f0 ∗ ptT c M1 f1 ∗ ptT c M2 f2 ∗ (iprop(ptT c M0 f0 ∗ ptT c M1 f1
        ∗ ∃ W : Bf (F := F) c M2, ⌜M2.view.read (Elt F) W = k0_pay1 (M0.view.read (Elt F) f0) (M1.view.read (Elt F) f1)⌝ ∗ ptT c M2 W) -∗ Q ⟨⟩)) : sProp 𝕄)
      ⊢ wp frame (wpE (defs₀ (F := F)) 𝒱₀ c none) Set.univ (cc0_body i M0 h0 M1 h1 M2 h2) Q := by
  rw [cc0_body_eq_skeleton]; unfold cc0_body_skel
  iintro ⟨H0, H1, H2, Hk⟩
  sl_exec
  sl_step
  iapply Hk
  isplitl [H0]; · iexact H0
  isplitl [H1]; · iexact H1
  iexists _; isplitr; swap; (· iexact H2); ipureintro
  rw [View.read_writes_full]
  congr 1
  · exact View.readAt_full _ _ _
  · exact View.readAt_full _ _ _

abbrev divOut (v0 : Vec F S32x10x16 .f32) : FVec F S1x1 .f32 := k2_pay1 (k2_pay10 (k2_pay6 v0) (k2_pay7 v0))
abbrev comOut (v0 : Vec F S32x10x16 .f32) : FVec F S1x1 .f32 := k2_pay2 (k2_pay11 (k2_pay4 v0) (k2_pay5 (F := F)) (k2_pay6 v0) (constant S4x16 .f32 0x00000000#32))

/-- The epilogue kernel: the same. -/
theorem run2 (c : Dev nD) (M0 : Memref sig .tc .vmem S32x10x16 .f32) (h0 : M0.IsWhole) (M1 : Memref sig .tc .vmem S1x1 .f32) (h1 : M1.IsWhole)
    (M2 : Memref sig .tc .vmem S1x1 .f32) (h2 : M2.IsWhole) (f0 : Bf (F := F) c M0) (f1 : Bf (F := F) c M1) (f2 : Bf (F := F) c M2) (Q : PUnit → sProp 𝕄) :
    (iprop(ptT c M0 f0 ∗ ptT c M1 f1 ∗ ptT c M2 f2 ∗ (iprop(ptT c M0 f0
        ∗ (∃ W : Bf (F := F) c M1, ⌜M1.view.read (Elt F) W = divOut (M0.view.read (Elt F) f0)⌝ ∗ ptT c M1 W)
        ∗ ∃ W : Bf (F := F) c M2, ⌜M2.view.read (Elt F) W = comOut (M0.view.read (Elt F) f0)⌝ ∗ ptT c M2 W) -∗ Q ⟨⟩)) : sProp 𝕄)
      ⊢ wp frame (wpE (defs₀ (F := F)) 𝒱₀ c none) Set.univ (cc2_body M0 h0 M1 h1 M2 h2) Q := by
  rw [cc2_body_eq_skeleton]; unfold cc2_body_skel
  rw [k2_part1_eq_skeleton]; unfold k2_part1_skel
  simp only [k2_part2_eq_skeleton]; unfold k2_part2_skel
  iintro ⟨H0, H1, H2, Hk⟩
  sl_exec
  sl_step
  iapply Hk
  isplitl [H0]; · iexact H0
  isplitl [H1]
  · iexists _; isplitr; swap; (· iexact H1); ipureintro
    rw [View.read_writes_full, View.readAt_full]
  · iexists _; isplitr; swap; (· iexact H2); ipureintro
    rw [View.read_writes_full, View.readAt_full]

/-! ## The proof data, at an entry valuation -/

variable (V : (c : Dev nD) → (b : Ref sig .tc) → Buf (Elt F) ((c : Thread nD τ).loc b))

/-- A window's block at a point, read from the entry valuation. -/
abbrev blk0 (c : Dev nD) (w : Fin 3) (t : Fin cfg0.N) : ((cfg0.win w).xblock (cfg0.grid.coords t)).Idx → Elt F (cfg0.win w).elt :=
  ((cfg0.win w).blk t).view.read (Elt F) (V c (Pipeline.arrRef spec0 w))
abbrev blk2 (c : Dev nD) (w : Fin 3) (t : Fin cfg2.N) : ((cfg2.win w).xblock (cfg2.grid.coords t)).Idx → Elt F (cfg2.win w).elt :=
  ((cfg2.win w).blk t).view.read (Elt F) (V c (Pipeline.arrRef spec2 w))

abbrev lgBlk (c : Dev nD) (t : Fin cfg0.N) : FVec F S1x8x1024 .f32 := k0_pay1 (blk0 V c 0 t) (blk0 V c 1 t)

def dat0 (n : ℕ) (c : Dev nD) : Dat τ (Elt F) (HIx 1) ℕ UU ℕ cfg0 c where
  A w := V c (Pipeline.arrRef spec0 w)
  after w t := match w with
    | ⟨0, _⟩ => blk0 V c 0 t
    | ⟨1, _⟩ => blk0 V c 1 t
    | ⟨2, _⟩ => lgBlk V c t
  Φ _ := Pipeline.scopedRest (Ix := HIx 1) (Name := ℕ) (U := UU) (Lvl := ℕ) (Val := Elt F) spec0 c
  q _ := fullShare
  owed _ := (K (F := F)).Otc c n
  recorded _ := Bset (F := F) c n

def dat2 (n : ℕ) (c : Dev nD) : Dat τ (Elt F) (HIx 1) ℕ UU ℕ cfg2 c where
  A w := V c (Pipeline.arrRef spec2 w)
  after w t := match w with
    | ⟨0, _⟩ => blk2 V c 0 t
    | ⟨1, _⟩ => divOut (blk2 V c 0 t)
    | ⟨2, _⟩ => comOut (blk2 V c 0 t)
  Φ _ := Pipeline.scopedRest (Ix := HIx 1) (Name := ℕ) (U := UU) (Lvl := ℕ) (Val := Elt F) spec2 c
  q _ := fullShare
  owed _ := (K (F := F)).Otc c n
  recorded _ := Bset (F := F) c n

theorem before0_0 (n : ℕ) (c : Dev nD) (t : Fin cfg0.N) (d) : (dat0 V n c).before 0 t d = blk0 V c 0 t :=
  ((dat0 V n c).before_in_eq_fetched 0 rfl (fun _ => rfl) (fun _ _ _ => rfl) (fun _ => rfl) t d).trans rfl
theorem before0_1 (n : ℕ) (c : Dev nD) (t : Fin cfg0.N) (d) : (dat0 V n c).before 1 t d = blk0 V c 1 t :=
  ((dat0 V n c).before_in_eq_fetched 1 rfl (fun _ => rfl) (fun _ _ _ => rfl) (fun _ => rfl) t d).trans rfl
theorem before2_0 (n : ℕ) (c : Dev nD) (t : Fin cfg2.N) (d) : (dat2 V n c).before 0 t d = blk2 V c 0 t :=
  ((dat2 V n c).before_in_eq_fetched 0 rfl (fun _ => rfl) (fun _ _ _ => rfl) (fun _ => rfl) t d).trans rfl

/-- A whole memref owned is its buffer held whole at contents that read so. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ ptT c M f) := by
  unfold owns; rw [h.set_eq_univ]

theorem body0 (n : ℕ) (c : Dev nD) : BodyObligation (dat0 V n c) (defs₀ (F := F)) 𝒱₀ none Set.univ := fun t => by
  rw [bigSep_W0, bigSep_W0]
  rw [show (dat0 V n c).Φ t.succ = (dat0 V n c).Φ t.castSucc from rfl,
    show (dat0 V n c).owesAt none t.succ = (dat0 V n c).owesAt none t.castSucc from rfl]
  simp only [owns_pt _ _ (hstage0_0 _), owns_pt _ _ (hstage0_1 _), owns_pt _ _ (hstage0_2 _), before0_0, before0_1]
  iintro ⟨HΦ, Howes, ⟨%d0, %f0, %hf0, H0⟩, ⟨%d1, %f1, %hf1, H1⟩, ⟨%d2, %f2, -, H2⟩⟩
  iapply (run0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) f0 f1 f2 _)
  isplitl [H0]; · iexact H0
  isplitl [H1]; · iexact H1
  isplitl [H2]; · iexact H2
  iintro ⟨H0, H1, ⟨%W, %hW, H2⟩⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  iexists W; isplitr; swap; (· iexact H2); ipureintro
  exact hW.trans (congrArg₂ k0_pay1 hf0 hf1)

theorem body2 (n : ℕ) (c : Dev nD) : BodyObligation (dat2 V n c) (defs₀ (F := F)) 𝒱₀ none Set.univ := fun t => by
  rw [bigSep_W2, bigSep_W2]
  rw [show (dat2 V n c).Φ t.succ = (dat2 V n c).Φ t.castSucc from rfl,
    show (dat2 V n c).owesAt none t.succ = (dat2 V n c).owesAt none t.castSucc from rfl]
  simp only [owns_pt _ _ (hstage2_0 _), owns_pt _ _ (hstage2_1 _), owns_pt _ _ (hstage2_2 _), before2_0]
  iintro ⟨HΦ, Howes, ⟨%d0, %f0, %hf0, H0⟩, ⟨%d1, %f1, -, H1⟩, ⟨%d2, %f2, -, H2⟩⟩
  iapply (run2 c (win2_0.stage (cfg2.slots t 0)) (hstage2_0 0) (win2_1.stage (cfg2.slots t 1)) (hstage2_1 0) (win2_2.stage (cfg2.slots t 2)) (hstage2_2 0) f0 f1 f2 _)
  isplitl [H0]; · iexact H0
  isplitl [H1]; · iexact H1
  isplitl [H2]; · iexact H2
  iintro ⟨H0, ⟨%W1, %hW1, H1⟩, ⟨%W2, %hW2, H2⟩⟩
  isplitl [HΦ]; · iexact HΦ
  isplitl [Howes]; · iexact Howes
  isplitl [H0]; · iexists f0; isplitr; swap; (· iexact H0); ipureintro; exact hf0
  isplitl [H1]; · iexists W1; isplitr; swap; (· iexact H1); ipureintro; exact hW1.trans (congrArg divOut hf0)
  iexists W2; isplitr; swap; (· iexact H2); ipureintro
  exact hW2.trans (congrArg comOut hf0)

section Lift

variable {nD' : ℕ} {τ' : Topo} {sig' : RefSig} {Val : EltTy → Type} {Λ : Labels} {Q' : ℕ} {Name : Type} [DecidableEq Name] {U : Type} [URA U]
  {N : ℕ} (K' : SparseCore.Cfg τ' sig' Λ Q') (D' : Defs nD' τ' sig' Val Λ) (𝒱' : Variants)

/-- A call of the certificate's label from @main is the lifted call. -/
theorem wp_inner (d : Dev nD') (ℓ : Λ.Label) (a : Λ.Args ℓ) (Q : Λ.Result ℓ → sProp (MT nD' τ' sig' (HIx N) Val Name U ℕ)) :
    wp frame (wpE D' 𝒱' (T d) none) Set.univ (.op (.customCall ℓ a) .ret : Prog (TpuEff nD' τ' sig' Val Λ .tc) _) Q
      ⊢ wp frame (wpE (K'.defs D') 𝒱' (T d) none) Set.univ (Prog.lift (.customCall (SparseCore.inner ℓ) a)) Q :=
  K'.wp_liftProg D' 𝒱' (T d) Set.univ none (.op (.customCall ℓ a) .ret : Prog (TpuEff nD' τ' sig' Val Λ .tc) _) Q

end Lift

/-! ## The regions -/

section Regions

variable [∀ e, Nonempty (Elt F e)]

/-- A proof data for the pipeline a region does not run. -/
def junkDat {cfg : Pipeline.Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

def pdats0 (n : ℕ) : (p : Fin 2) → (c : Dev nD) → Dat τ (Elt F) (HIx 1) ℕ UU ℕ (Pipeline.pin (pcfgs (F := F)) adm p) c
  | ⟨0, _⟩ => fun c => dat0 V n c
  | ⟨1, _⟩ => fun c => junkDat c

-- stated at the pinned configuration: unification may unfold plain definitions in a metavariable's type
set_option backward.isDefEq.respectTransparency.types false in
/-- The region as a segment, entered at `V` and left at any `Vp` that has its results and agrees with `V` off them. -/
def seg0 (n : ℕ) (Vp : (c : Dev nD) → (b : Ref sig .tc) → Buf (Elt F) ((c : Thread nD τ).loc b))
    (h2 : ∀ c, Vp c main_v1 = (dat0 V n c).arrAt 2 cfg0.N)
    (hne : ∀ c (b : Ref sig .tc), b ≠ main_v1 → Vp c b = V c b) :
    Pipeline.RegionSeg (pcfgs (F := F)) adm (pdats0 V n) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body0 V n c).loose
  hwaits c := Pipeline.cellsWaits_intro _ _ _ _ _ fun w s t => (K (F := F)).mayWait_none _ (Otc_none c n)
  pre c := iprop(unscopedBufs c (V c) ∗ ∃ W, ⌜(K (F := F)).WBelow (T c) W (8 * SparseCore.Cfg.Blocks.fst (Q := 1) (N := 1) n)⌝ ∗ owes (c : Thread nD τ) ((K (F := F)).Otc c n) W)
  post c := iprop(unscopedBufs c (Vp c) ∗ ∃ W, ⌜(K (F := F)).WBelow (T c) W (8 * SparseCore.Cfg.Blocks.fst (Q := 1) (N := 1) n)⌝ ∗ owes (c : Thread nD τ) ((K (F := F)).Otc c n) W)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats0 V n) launch0.win launch0.arr_whole c
      ((pdats0 V n 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats0 V n 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats0 V n 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats0 V n) ((pdats0 V n 0 c).share_full fun _ => rfl) (V c) (Vp c) ((pdats0 V n 0 c).arrAt · cfg0.N)
      (fun w => by
        fin_cases w
        · exact ((pdats0 V n 0 c).arrAt_in 0 rfl _).trans (hne c main_arg1 (by decide)).symm
        · exact ((pdats0 V n 0 c).arrAt_in 1 rfl _).trans (hne c main_v0 (by decide)).symm
        · exact (h2 c).symm)
      (fun b hb => hne c b (fun h => hb (h ▸ Finset.mem_image.mpr ⟨2, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, h⟩
      · exact h
      · rw [h]; exact Nat.zero_le _
    iexact HO

/-- The region from the TensorCore's state between calls. -/
theorem region0 (n : ℕ) (Vp : (c : Dev nD) → (b : Ref sig .tc) → Buf (Elt F) ((c : Thread nD τ).loc b))
    (h2 : ∀ c, Vp c main_v1 = (dat0 V n c).arrAt 2 cfg0.N)
    (hne : ∀ c (b : Ref sig .tc), b ≠ main_v1 → Vp c b = V c b) (d : Dev nD) (Q : PUnit → sProp 𝕄) :
    (iprop(levAts (K (F := F)).L (K (F := F)).lev ∗ (K (F := F)).tcSt (EH (F := F)) d n ∗ boundary (T d) ∗ unscopedBufs d (V d)
        ∗ Pipeline.cellsGhost (Pipeline.pin (pcfgs (F := F)) adm) (EP (F := F)) 0 d ∗ Pipeline.toksInit (Pipeline.pin (pcfgs (F := F)) adm) (EP (F := F)) 0 d
        ∗ ((K (F := F)).tcSt (EH (F := F)) d n ∗ boundary (T d) ∗ unscopedBufs d (Vp d) -∗ Q ⟨⟩)) : sProp 𝕄)
      ⊢ wp frame (wpE ((K (F := F)).defs D) 𝒱 (T d) none) Set.univ (Prog.lift (.customCall (SparseCore.inner (Pipeline.entry 0)) ())) Q := by
  unfold SparseCore.Cfg.tcSt
  iintro ⟨Hlv, ⟨HO, Hst⟩, Hb, Hub, Hg, Ht, Hk⟩
  iapply (wp_inner K D 𝒱 d (Pipeline.entry 0) () Q)
  iapply (Pipeline.RegionSeg.wp (pcfgs (F := F)) adm (pdats0 V n) none cellOf_inj EP defs₀ 𝒱₀ (K (F := F)).L (K (F := F)).lev
    (seg0 V n Vp h2 hne) d none (fun _ h => nomatch h) .ret Q)
  rw [show (seg0 V n Vp h2 hne).pre d = iprop(unscopedBufs d (V d) ∗ ∃ W, ⌜(K (F := F)).WBelow (T d) W (8 * SparseCore.Cfg.Blocks.fst (Q := 1) (N := 1) n)⌝ ∗ owes (d : Thread nD τ) ((K (F := F)).Otc d n) W) from rfl,
    show (seg0 V n Vp h2 hne).post d = iprop(unscopedBufs d (Vp d) ∗ ∃ W, ⌜(K (F := F)).WBelow (T d) W (8 * SparseCore.Cfg.Blocks.fst (Q := 1) (N := 1) n)⌝ ∗ owes (d : Thread nD τ) ((K (F := F)).Otc d n) W) from rfl]
  isplitl [Hk Hst]
  · iintro ⟨Hb, Hub, HO⟩
    rw [wp_ret]
    iapply fupd_intro
    iapply Hk
    isplitl [HO Hst]
    · isplitl [HO] <;> iassumption
    isplitl [Hb] <;> iassumption
  isplitl [Hb]; · iexact Hb
  isplitl [Hub HO]
  · isplitl [Hub]; · iexact Hub
    iexact HO
  isplitl [Hlv]; · iexact Hlv
  isplitl [Hg] <;> iassumption

def pdats2 (n : ℕ) : (p : Fin 2) → (c : Dev nD) → Dat τ (Elt F) (HIx 1) ℕ UU ℕ (Pipeline.pin (pcfgs (F := F)) adm p) c
  | ⟨0, _⟩ => fun c => junkDat c
  | ⟨1, _⟩ => fun c => dat2 V n c

-- stated at the pinned configuration: unification may unfold plain definitions in a metavariable's type
set_option backward.isDefEq.respectTransparency.types false in
/-- The region as a segment, entered at `V` and left at any `Vp` that has its results and agrees with `V` off them. -/
def seg2 (n : ℕ) (Vp : (c : Dev nD) → (b : Ref sig .tc) → Buf (Elt F) ((c : Thread nD τ).loc b))
    (h1 : ∀ c, Vp c main_v3_0 = (dat2 V n c).arrAt 1 cfg2.N) (h2 : ∀ c, Vp c main_v3_1 = (dat2 V n c).arrAt 2 cfg2.N)
    (hne : ∀ c (b : Ref sig .tc), b ≠ main_v3_0 → b ≠ main_v3_1 → Vp c b = V c b) :
    Pipeline.RegionSeg (pcfgs (F := F)) adm (pdats2 V n) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body2 V n c).loose
  hwaits c := Pipeline.cellsWaits_intro _ _ _ _ _ fun w s t => (K (F := F)).mayWait_none _ (Otc_none c n)
  pre c := iprop(unscopedBufs c (V c) ∗ ∃ W, ⌜(K (F := F)).WBelow (T c) W (8 * SparseCore.Cfg.Blocks.fst (Q := 1) (N := 1) n)⌝ ∗ owes (c : Thread nD τ) ((K (F := F)).Otc c n) W)
  post c := iprop(unscopedBufs c (Vp c) ∗ ∃ W, ⌜(K (F := F)).WBelow (T c) W (8 * SparseCore.Cfg.Blocks.fst (Q := 1) (N := 1) n)⌝ ∗ owes (c : Thread nD τ) ((K (F := F)).Otc c n) W)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats2 V n) launch2.win launch2.arr_whole c
      ((pdats2 V n 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats2 V n 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats2 V n 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats2 V n) ((pdats2 V n 1 c).share_full fun _ => rfl) (V c) (Vp c) ((pdats2 V n 1 c).arrAt · cfg2.N)
      (fun w => by
        fin_cases w
        · exact ((pdats2 V n 1 c).arrAt_in 0 rfl _).trans (hne c main_v2_2 (by decide) (by decide)).symm
        · exact (h1 c).symm
        · exact (h2 c).symm)
      (fun b hb => hne c b (fun h => hb (h ▸ Finset.mem_image.mpr ⟨1, Finset.mem_univ _, rfl⟩)) (fun h => hb (h ▸ Finset.mem_image.mpr ⟨2, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, h⟩
      · exact h
      · rw [h]; exact Nat.zero_le _
    iexact HO

/-- The region from the TensorCore's state between calls. -/
theorem region2 (n : ℕ) (Vp : (c : Dev nD) → (b : Ref sig .tc) → Buf (Elt F) ((c : Thread nD τ).loc b))
    (h1 : ∀ c, Vp c main_v3_0 = (dat2 V n c).arrAt 1 cfg2.N) (h2 : ∀ c, Vp c main_v3_1 = (dat2 V n c).arrAt 2 cfg2.N)
    (hne : ∀ c (b : Ref sig .tc), b ≠ main_v3_0 → b ≠ main_v3_1 → Vp c b = V c b) (d : Dev nD) (Q : PUnit → sProp 𝕄) :
    (iprop(levAts (K (F := F)).L (K (F := F)).lev ∗ (K (F := F)).tcSt (EH (F := F)) d n ∗ boundary (T d) ∗ unscopedBufs d (V d)
        ∗ Pipeline.cellsGhost (Pipeline.pin (pcfgs (F := F)) adm) (EP (F := F)) 1 d ∗ Pipeline.toksInit (Pipeline.pin (pcfgs (F := F)) adm) (EP (F := F)) 1 d
        ∗ ((K (F := F)).tcSt (EH (F := F)) d n ∗ boundary (T d) ∗ unscopedBufs d (Vp d) -∗ Q ⟨⟩)) : sProp 𝕄)
      ⊢ wp frame (wpE ((K (F := F)).defs D) 𝒱 (T d) none) Set.univ (Prog.lift (.customCall (SparseCore.inner (Pipeline.entry 1)) ())) Q := by
  unfold SparseCore.Cfg.tcSt
  iintro ⟨Hlv, ⟨HO, Hst⟩, Hb, Hub, Hg, Ht, Hk⟩
  iapply (wp_inner K D 𝒱 d (Pipeline.entry 1) () Q)
  iapply (Pipeline.RegionSeg.wp (pcfgs (F := F)) adm (pdats2 V n) none cellOf_inj EP defs₀ 𝒱₀ (K (F := F)).L (K (F := F)).lev
    (seg2 V n Vp h1 h2 hne) d none (fun _ h => nomatch h) .ret Q)
  rw [show (seg2 V n Vp h1 h2 hne).pre d = iprop(unscopedBufs d (V d) ∗ ∃ W, ⌜(K (F := F)).WBelow (T d) W (8 * SparseCore.Cfg.Blocks.fst (Q := 1) (N := 1) n)⌝ ∗ owes (d : Thread nD τ) ((K (F := F)).Otc d n) W) from rfl,
    show (seg2 V n Vp h1 h2 hne).post d = iprop(unscopedBufs d (Vp d) ∗ ∃ W, ⌜(K (F := F)).WBelow (T d) W (8 * SparseCore.Cfg.Blocks.fst (Q := 1) (N := 1) n)⌝ ∗ owes (d : Thread nD τ) ((K (F := F)).Otc d n) W) from rfl]
  isplitl [Hk Hst]
  · iintro ⟨Hb, Hub, HO⟩
    rw [wp_ret]
    iapply fupd_intro
    iapply Hk
    isplitl [HO Hst]
    · isplitl [HO] <;> iassumption
    isplitl [Hb] <;> iassumption
  isplitl [Hb]; · iexact Hb
  isplitl [Hub HO]
  · isplitl [Hub]; · iexact Hub
    iexact HO
  isplitl [Hlv]; · iexact Hlv
  isplitl [Hg] <;> iassumption

end Regions

end Cert.KernelIdeal.Gate

end
-- ==== Proof.Run.lean ====
/- The program's run, at any float carrier: @main's memory step by step — the reshape, the logits' region, the SparseCore
   call, the losses' region, the results' reshapes —, the launch, and what memory reads at the end. -/
module

public import proofs.«01_k».proof.Proof.Launch
public import proofs.«01_k».proof.Proof.Region

@[expose] public section

noncomputable section

namespace Cert.KernelIdeal.Gate

open Cert.KernelIdeal Cert.KernelIdeal.Gen

open Idealize.ShloMosaic
open Idealize.ShloMosaic.SparseCore (S V T)
open Idealize.ShloMosaic.SparseCore.Cfg (HIx Pay)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
local notation "𝕄" => MT nD τ sig (HIx 1) (Elt F) ℕ UU ℕ

variable (m : (ℓ : Loc nD τ sig) → Buf (Elt F) ℓ) (ρ : Dev nD → PrngReg)

/-! ## Memory, step by step -/

abbrev dr (b : Ref sig .tc) : DevRef τ sig := Proc.devRef .tc b

abbrev opR : HloOp τ sig (Elt F) := StableHlo.reshape main_arg0 main_v0 (rfl : (.f32 : EltTy) = .f32) shapeCasts_S4x8192x12_S32768x12
abbrev opA : HloOp τ sig (Elt F) := StableHlo.reshape main_v2_0 main_v4 (rfl : (.i32 : EltTy) = .i32) shapeCasts_S65536_S32768x2
abbrev opB : HloOp τ sig (Elt F) := StableHlo.reshape main_v2_1 main_v5 (rfl : (.f32 : EltTy) = .f32) shapeCasts_S65536_S32768x2
abbrev opC : HloOp τ sig (Elt F) := StableHlo.reshape main_v3_0 main_v6 (rfl : (.f32 : EltTy) = .f32) shapeCasts_S1x1_S_
abbrev opD : HloOp τ sig (Elt F) := StableHlo.reshape main_v3_1 main_v7 (rfl : (.f32 : EltTy) = .f32) shapeCasts_S1x1_S_

/-- A device's valuations as the regions read them. -/
abbrev vt (W : Dev nD → Valuation τ sig (Elt F)) (c : Dev nD) (b : Ref sig .tc) : Buf (Elt F) ((SparseCore.T c : Thread nD τ).loc b) := W c (dr b)

def W0 (d : Dev nD) : Valuation τ sig (Elt F) := fun b => m (d, b)
def W1 (d : Dev nD) : Valuation τ sig (Elt F) := (opR (F := F)).result (W0 m d)
/-- The logits, as the first region leaves them. -/
def Bl (d : Dev nD) : Buf (Elt F) (lgLoc d) := (dat0 (vt (W1 m)) 0 d).arrAt 2 cfg0.N
def W2 (d : Dev nD) : Valuation τ sig (Elt F) := Function.update (W1 m d) (dr main_v1) (Bl m d)
def W3 (d : Dev nD) : Valuation τ sig (Elt F) :=
  Function.update (Function.update (Function.update (W2 m d) (dr main_v2_0) (O7 (Bl m d) : Buf (Elt F) (ixLoc d))) (dr main_v2_1) (O8 (Bl m d) : Buf (Elt F) (twLoc d)))
    (dr main_v2_2) (OS (Bl m d) : Buf (Elt F) (stLoc d))
def W4 (d : Dev nD) : Valuation τ sig (Elt F) :=
  Function.update (Function.update (W3 m d) (dr main_v3_0) ((dat2 (vt (W3 m)) 1 d).arrAt 1 cfg2.N)) (dr main_v3_1) ((dat2 (vt (W3 m)) 1 d).arrAt 2 cfg2.N)
def W5 (d : Dev nD) : Valuation τ sig (Elt F) :=
  (opD (F := F)).result ((opC (F := F)).result ((opB (F := F)).result ((opA (F := F)).result (W4 m d))))

/-! ## Unscoped arrays -/

/-- The unscoped arrays of a TensorCore. -/
def ucr : Finset (DevRef τ sig) := (Finset.univ.filter fun b : Ref sig .tc => ¬ b.isScoped).map ⟨dr, fun a b h => by
  revert h; revert a b; decide⟩

theorem unscoped_held (d : Dev nD) (W : Valuation τ sig (Elt F)) :
    (unscopedBufs d (fun b => W (dr b)) : sProp 𝕄) = held (T d) ucr W := by
  unfold unscopedBufs held ucr
  rw [bigSep_map]; rfl

theorem mem_ucr (b : Ref sig .tc) (h : b.isScoped = false) : dr b ∈ ucr := by
  unfold ucr
  exact Finset.mem_map.2 ⟨b, Finset.mem_filter.2 ⟨Finset.mem_univ _, by simp [h]⟩, rfl⟩

/-- The arrays the SparseCore call does not take. -/
def rest9 : Finset (Ref sig .tc) := {main_arg0, main_arg1, main_v0, main_v3_0, main_v3_1, main_v4, main_v5, main_v6, main_v7}

theorem unscoped_split (d : Dev nD) (W : Valuation τ sig (Elt F)) :
    (unscopedBufs d (fun b => W (dr b)) : sProp 𝕄)
      = iprop((lgLoc d ↦{fullShare} W (dr main_v1)) ∗ (ixLoc d ↦{fullShare} W (dr main_v2_0)) ∗ (twLoc d ↦{fullShare} W (dr main_v2_1))
          ∗ (stLoc d ↦{fullShare} W (dr main_v2_2)) ∗ bigSep rest9 fun b => (T d : Thread nD τ).loc b ↦{fullShare} W (dr b)) := by
  unfold unscopedBufs
  rw [show (Finset.univ.filter fun b : Ref sig .tc => ¬ b.isScoped) = insert main_v1 (insert main_v2_0 (insert main_v2_1 (insert main_v2_2 rest9))) by decide,
    SparseCore.bigSep_insert' (by decide), SparseCore.bigSep_insert' (by decide), SparseCore.bigSep_insert' (by decide), SparseCore.bigSep_insert' (by decide)]

theorem W3_rest (d : Dev nD) (b : Ref sig .tc) (h0 : dr b ≠ dr main_v2_0) (h1 : dr b ≠ dr main_v2_1) (h2 : dr b ≠ dr main_v2_2) : W3 m d (dr b) = W2 m d (dr b) := by
  unfold W3; rw [Function.update_of_ne h2, Function.update_of_ne h1, Function.update_of_ne h0]

theorem rest_W3 (d : Dev nD) : (bigSep rest9 fun b => ((T d : Thread nD τ).loc b ↦{fullShare} W3 m d (dr b) : sProp 𝕄))
    = bigSep rest9 fun b => (T d : Thread nD τ).loc b ↦{fullShare} W2 m d (dr b) :=
  bigSep_congr fun b hb => by
    have hall : ∀ b ∈ rest9, dr b ≠ dr main_v2_0 ∧ dr b ≠ dr main_v2_1 ∧ dr b ≠ dr main_v2_2 := by decide
    obtain ⟨h0, h1, h2⟩ := hall b hb
    rw [W3_rest m d b h0 h1 h2]

theorem W2_v1 (d : Dev nD) : W2 m d (dr main_v1) = Bl m d := Function.update_self _ _ _
theorem W3_v1 (d : Dev nD) : W3 m d (dr main_v1) = Bl m d :=
  (W3_rest m d main_v1 (by decide) (by decide) (by decide)).trans (W2_v1 m d)
theorem W3_v20 (d : Dev nD) : W3 m d (dr main_v2_0) = O7 (Bl m d) := by
  unfold W3; rw [Function.update_of_ne (by decide), Function.update_of_ne (by decide), Function.update_self]
theorem W3_v21 (d : Dev nD) : W3 m d (dr main_v2_1) = O8 (Bl m d) := by
  unfold W3; rw [Function.update_of_ne (by decide), Function.update_self]
theorem W3_v22 (d : Dev nD) : W3 m d (dr main_v2_2) = OS (Bl m d) := by
  unfold W3; rw [Function.update_self]

theorem W3_join (d : Dev nD) :
    (iprop((lgLoc d ↦{fullShare} Bl m d) ∗ (ixLoc d ↦{fullShare} O7 (Bl m d)) ∗ (twLoc d ↦{fullShare} O8 (Bl m d)) ∗ (stLoc d ↦{fullShare} OS (Bl m d))
        ∗ bigSep rest9 fun b => (T d : Thread nD τ).loc b ↦{fullShare} W2 m d (dr b)) : sProp 𝕄)
      = unscopedBufs d (fun b => W3 m d (dr b)) := by
  rw [unscoped_split, W3_v1, W3_v20, W3_v21, W3_v22, rest_W3]

theorem dr_inj (a b : Ref sig .tc) (h : a ≠ b) : dr a ≠ dr b := fun e => by
  revert h; revert e; revert a b; decide

theorem W2_ne (d : Dev nD) (b : Ref sig .tc) (h : b ≠ main_v1) : W2 m d (dr b) = W1 m d (dr b) := Function.update_of_ne (dr_inj b main_v1 h) _ _
theorem W4_v30 (d : Dev nD) : W4 m d (dr main_v3_0) = (dat2 (vt (W3 m)) 1 d).arrAt 1 cfg2.N := by
  unfold W4; rw [Function.update_of_ne (by decide), Function.update_self]
theorem W4_v31 (d : Dev nD) : W4 m d (dr main_v3_1) = (dat2 (vt (W3 m)) 1 d).arrAt 2 cfg2.N := by
  unfold W4; rw [Function.update_self]
theorem W4_ne (d : Dev nD) (b : Ref sig .tc) (h : b ≠ main_v3_0) (h' : b ≠ main_v3_1) : W4 m d (dr b) = W3 m d (dr b) := by
  unfold W4; rw [Function.update_of_ne (dr_inj b _ h'), Function.update_of_ne (dr_inj b _ h)]

/-! ## The launch's ghost state -/

abbrev pinned := Pipeline.pin (pcfgs (F := F)) adm

def u₀ : UU := (initOf (K (F := F)).hsCells (K (F := F)).hsToks,
  (initOf (Pipeline.cells (nD := nD) (τ := τ) (pinned (F := F)) cellOf_inj) (Pipeline.launchToks (nD := nD) (τ := τ) (pinned (F := F)) cellOf_inj), 1))

/-- The regions' staging cells, as @main takes them. -/
abbrev G (d : Dev nD) : sProp 𝕄 :=
  iprop((Pipeline.cellsGhost (pinned (F := F)) (EP (F := F)) 0 d ∗ Pipeline.cellsGhost (pinned (F := F)) (EP (F := F)) 1 d)
    ∗ (Pipeline.toksInit (pinned (F := F)) (EP (F := F)) 0 d ∗ Pipeline.toksInit (pinned (F := F)) (EP (F := F)) 1 d))

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

abbrev PP : (K (F := F)).Pay (nD := nD) (Val := Elt F) (Name := ℕ) (U := UU) :=
  P (Bl m) (fun d => W2 m d (dr main_v2_0)) (fun d => W2 m d (dr main_v2_1)) (fun d => W2 m d (dr main_v2_2))

theorem hu₀ : (ownU (u₀ (F := F)) : sProp 𝕄) ⊢ |={Set.univ}=> iprop(own (EH (initOf (K (F := F)).hsCells (K (F := F)).hsToks))
    ∗ (bigSep Finset.univ fun d : Dev nD => G d) ∗ bigSep Finset.univ fun thr : Thread nD τ => bigSep Finset.univ fun q : Fin 1 => (PP m).x q thr) := by
  have hx : (bigSep Finset.univ fun thr : Thread nD τ => bigSep Finset.univ fun q : Fin 1 => (PP m).x q thr) = (iprop(emp) : sProp 𝕄) :=
    (bigSep_congr fun _ _ => bigSep_emp_const _).trans (bigSep_emp_const _)
  have hpair : ∀ Φ : Fin 2 → Dev nD → sProp 𝕄,
      (bigSep Finset.univ fun c : Dev nD => bigSep Finset.univ fun p : Fin 2 => Φ p c) = iprop(Φ 0 0 ∗ Φ 1 0) := fun Φ => by
    rw [bigSep_univ_of_subsingleton (0 : Dev nD)]; exact bigSep_fin2 _
  rw [hx, bigSep_univ_of_subsingleton (0 : Dev nD)]
  iintro Hu
  ihave H := (ownU_pair _ _) $$ Hu
  icases H with ⟨Hh, Hp⟩
  imod (Pipeline.fund_ghost (pinned (F := F)) (EP (F := F)) cellOf_inj) $$ [Hp] with ⟨Hc, Ht⟩
  · iexact Hp
  imodintro
  isplitl [Hh]; · iexact Hh
  isplitl [Hc Ht]
  · ihave Hc' := (Entails.of_eq (hpair (Pipeline.cellsGhost (pinned (F := F)) (EP (F := F))))) $$ Hc
    ihave Ht' := (Entails.of_eq (hpair (Pipeline.toksInit (pinned (F := F)) (EP (F := F))))) $$ Ht
    isplitl [Hc']; · iexact Hc'
    iexact Ht'
  · iempintro

/-! ## @main -/

/-- What @main leaves: its arrays, at the last valuation. -/
abbrev FIN (d : Dev nD) : sProp 𝕄 := held (T d) ucr (W5 m d)

theorem hsub (op : HloOp τ sig (Elt F)) (a b : Ref sig .tc) (h : op.bufs = {dr a, dr b}) (ha : a.isScoped = false) (hb : b.isScoped = false) : op.bufs ⊆ ucr :=
  fun x hx => by
    rcases Finset.mem_insert.1 (h ▸ hx) with rfl | h'
    · exact mem_ucr a ha
    · rw [Finset.mem_singleton.1 h']; exact mem_ucr b hb

theorem subR : (opR (F := F)).bufs ⊆ ucr := hsub _ main_arg0 main_v0 rfl rfl rfl
theorem subA : (opA (F := F)).bufs ⊆ ucr := hsub _ main_v2_0 main_v4 rfl rfl rfl
theorem subB : (opB (F := F)).bufs ⊆ ucr := hsub _ main_v2_1 main_v5 rfl rfl rfl
theorem subC : (opC (F := F)).bufs ⊆ ucr := hsub _ main_v3_0 main_v6 rfl rfl rfl
theorem subD : (opD (F := F)).bufs ⊆ ucr := hsub _ main_v3_1 main_v7 rfl rfl rfl

theorem held_W1 (d : Dev nD) : (held (T d) ucr ((opR (F := F)).result (W0 m d)) : sProp 𝕄) = unscopedBufs d (fun b => W1 m d (dr b)) := (unscoped_held d (W1 m d)).symm
theorem launch_held (d : Dev nD) : (unscopedBufs d (fun b => m ((SparseCore.T d).loc b)) : sProp 𝕄) = held (T d) ucr (W0 m d) := unscoped_held d (W0 m d)

set_option maxHeartbeats 1000000 in
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held]
  simp only [main, wp_bind, wp_pure]
  iintro ⟨#Hctx, Hst, ⟨Hb, Hheld, Hts, -⟩, ⟨⟨Hc0, Hc1⟩, Ht0, Ht1⟩⟩
  ihave #HL := ((K (F := F)).ctx_levAts κ) $$ Hctx
  iapply (StableHlo.wp_hlo_within 𝒱 (SparseCore.T d) none Set.univ (op := opR) (S := ucr) subR (V := W0 m d)) $$ [Hb Hheld]
  · isplitl [Hb]; · iexact Hb
    iexact Hheld
  iintro ⟨Hb, Hheld⟩
  rw [wp_ret]; imodintro
  ihave Hub := (Entails.of_eq (held_W1 m d)) $$ Hheld
  iapply (region0 (vt (W1 m)) 0 (vt (W2 m)) (fun c => W2_v1 m c) (fun c b hb => W2_ne m c b hb) d)
  isplitr; · iexact HL
  isplitl [Hst]; · iexact Hst
  isplitl [Hb]; · iexact Hb
  isplitl [Hub]; · iexact Hub
  isplitl [Hc0]; · iexact Hc0
  isplitl [Ht0]; · iexact Ht0
  iintro ⟨Hst, Hb, Hub⟩
  ihave Hub' := (Entails.of_eq (unscoped_split (F := F) d (W2 m d))) $$ Hub
  icases Hub' with ⟨Hlg, Hix, Htw, Hss, Hrest⟩
  ihave Hlg' := (Entails.of_eq (congrArg (fun f => (lgLoc d ↦{fullShare} f : sProp 𝕄)) (W2_v1 m d))) $$ Hlg
  -- the SparseCore call
  iapply ((K (F := F)).wp_run (D (F := F)) 𝒱 (EH := EH) (P := PP m) κ d 0) $$ [Hst Hlg' Hix Htw Hss Hb Hrest Hts Hc1 Ht1]
  isplitr; · iexact Hctx
  isplitl [Hst]; · iexact Hst
  isplitl [Hlg' Hix Htw Hss]
  · rw [st0_eq]
    isplitl [Hlg']; · iexact Hlg'
    isplitl [Hix]; · iexact Hix
    isplitl [Htw]; · iexact Htw
    iexact Hss
  iintro ⟨Hst, Hdn⟩
  ihave Hdn' := (Entails.of_eq (dn0_eq _ _ _ _ d)) $$ Hdn
  icases Hdn' with ⟨Hlg, Hix, Htw, Hss⟩
  ihave Hub := (Entails.of_eq (W3_join m d)) $$ [Hlg Hix Htw Hss Hrest]
  · isplitl [Hlg]; · iexact Hlg
    isplitl [Hix]; · iexact Hix
    isplitl [Htw]; · iexact Htw
    isplitl [Hss]; · iexact Hss
    iexact Hrest
  iapply (region2 (vt (W3 m)) 1 (vt (W4 m)) (fun c => W4_v30 m c) (fun c => W4_v31 m c) (fun c b hb hb' => W4_ne m c b hb hb') d)
  isplitr; · iexact HL
  isplitl [Hst]; · iexact Hst
  isplitl [Hb]; · iexact Hb
  isplitl [Hub]; · iexact Hub
  isplitl [Hc1]; · iexact Hc1
  isplitl [Ht1]; · iexact Ht1
  iintro ⟨Hst, Hb, Hub⟩
  ihave Hheld := (Entails.of_eq (unscoped_held (F := F) d (W4 m d))) $$ Hub
  iapply (StableHlo.wp_hlo_within 𝒱 (SparseCore.T d) none Set.univ (op := opA) (S := ucr) subA (V := W4 m d)) $$ [Hb Hheld]
  · isplitl [Hb]; · iexact Hb
    iexact Hheld
  iintro ⟨Hb, Hheld⟩
  rw [wp_ret]; imodintro
  iapply (StableHlo.wp_hlo_within 𝒱 (SparseCore.T d) none Set.univ (op := opB) (S := ucr) subB (V := (opA (F := F)).result (W4 m d))) $$ [Hb Hheld]
  · isplitl [Hb]; · iexact Hb
    iexact Hheld
  iintro ⟨Hb, Hheld⟩
  rw [wp_ret]; imodintro
  iapply (StableHlo.wp_hlo_within 𝒱 (SparseCore.T d) none Set.univ (op := opC) (S := ucr) subC (V := (opB (F := F)).result ((opA (F := F)).result (W4 m d)))) $$ [Hb Hheld]
  · isplitl [Hb]; · iexact Hb
    iexact Hheld
  iintro ⟨Hb, Hheld⟩
  rw [wp_ret]; imodintro
  iapply (StableHlo.wp_hlo_within 𝒱 (SparseCore.T d) none Set.univ (op := opD) (S := ucr) subD
    (V := (opC (F := F)).result ((opB (F := F)).result ((opA (F := F)).result (W4 m d))))) $$ [Hb Hheld]
  · isplitl [Hb]; · iexact Hb
    iexact Hheld
  iintro ⟨Hb, Hheld⟩
  rw [wp_ret]; imodintro; imodintro
  isplitl [Hst]; · iexact Hst
  isplitl [Hheld]; · iexact Hheld
  isplitl [Hb] <;> iassumption

/-! ## The end -/

def fq (d : Dev nD) (s' : Phys nD τ sig (Elt F)) : Prop := ∀ b ∈ ucr, s'.mem.mem (d, b) = W5 m d b

theorem hfin (d : Dev nD) (s' : Phys nD τ sig (Elt F)) : iprop(FIN m d ∗ SI s') ⊢ (⌜fq m d s'⌝ : sProp 𝕄) := by
  have h : ∀ b : DevRef τ sig, iprop(FIN m d ∗ SI s') ⊢ (⌜b ∈ ucr → s'.mem.mem (d, b) = W5 m d b⌝ : sProp 𝕄) := fun b => by
    by_cases hb : b ∈ ucr
    · have he : (FIN m d : sProp 𝕄) ⊢ (((d, b) : Loc nD τ sig) ↦{fullShare} W5 m d b) := bigSep_elim hb
      iintro ⟨Hx, HSI⟩
      ihave Hb := he $$ Hx
      ihave H := (SI_pointsTo_agree (st := s') (ℓ := ((d, b) : Loc nD τ sig)) (I := Finset.univ) (q := fullShare) (f := W5 m d b)) $$ [HSI Hb]
      · isplitl [HSI] <;> iassumption
      icases H with %hx
      ipureintro; exact fun _ => funext fun i => hx i (Finset.mem_univ i)
    · exact BIClass.pure_intro fun h => absurd h hb
  exact (forall_intro h).trans pure_forall.2

/-- What every final memory holds: the unscoped arrays at the last valuation, every semaphore at zero. -/
def QC : PUnit × MemSt nD τ sig (Elt F) → Prop := fun r => (∀ d : Dev nD, ∀ b ∈ ucr, r.2.mem (d, b) = W5 m d b) ∧ r.2.sem = fun _ => 0

theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := PP m) (A := ∅) launchFacts v₀
    (fun q hq => match q with | 0 => nomatch hq)
    (fun q _ => match q with | 0 => tileObl _ _ _ _)
    (fun q _ => match q with | 0 => SparseCore.Cfg.VecSplit.of_plain (vecSplit _ _ _ _))
    m ρ main G (FIN m) (u₀ (F := F)) (sep_elim_left.trans (hu₀ m)) (hmain m ρ) (fq m) (hfin m) (QC m) (fun _ h hz => ⟨h, hz⟩)

end Cert.KernelIdeal.Gate

end
-- ==== Proof.Frames.lean ====
/- The frames: the run at the exact carrier, and — the mask's named constant read as its bits — the same run of the program as printed. -/
module

public import proofs.«01_k».proof.Proof.Run
public import proofs.«01_k».proof.Defs
public import proofs.«01_k».proof.Proof.Gen.Kernel

@[expose] public section

noncomputable section

namespace Cert.KernelIdeal.Gate

open Cert.KernelIdeal Cert.KernelIdeal.Gen

open Idealize.ShloMosaic
open Idealize.SL Idealize.SL.Sem

variable {F : FTy → Type} [FloatOps F] [Named F]
variable (m : (ℓ : Loc nD τ sig) → Buf (Elt F) ℓ) (ρ : Dev nD → PrngReg)

theorem W1_ne (d : Dev nD) (b : Ref sig .tc) (h : b ≠ main_v0) : W1 m d (dr b) = m (d, dr b) := by
  unfold W1; exact StableHlo.reshape_result_ne _ _ _ _ _ _ _ h

theorem W5_ne (d : Dev nD) (b : Ref sig .tc) (h4 : b ≠ main_v4) (h5 : b ≠ main_v5) (h6 : b ≠ main_v6) (h7 : b ≠ main_v7) :
    W5 m d (dr b) = W4 m d (dr b) := by
  unfold W5
  exact (StableHlo.reshape_result_ne _ _ _ _ _ _ _ h7).trans ((StableHlo.reshape_result_ne _ _ _ _ _ _ _ h6).trans
    ((StableHlo.reshape_result_ne _ _ _ _ _ _ _ h5).trans (StableHlo.reshape_result_ne _ _ _ _ _ _ _ h4)))

theorem W5_arg0 (d : Dev nD) : W5 m d (dr main_arg0) = m (d, dr main_arg0) := by
  rw [W5_ne m d _ (by decide) (by decide) (by decide) (by decide), W4_ne m d _ (by decide) (by decide),
    W3_rest m d _ (by decide) (by decide) (by decide), W2_ne m d _ (by decide), W1_ne m d _ (by decide)]

theorem W5_arg1 (d : Dev nD) : W5 m d (dr main_arg1) = m (d, dr main_arg1) := by
  rw [W5_ne m d _ (by decide) (by decide) (by decide) (by decide), W4_ne m d _ (by decide) (by decide),
    W3_rest m d _ (by decide) (by decide) (by decide), W2_ne m d _ (by decide), W1_ne m d _ (by decide)]

/-- The run, with the arguments unchanged. -/
theorem run_args [∀ e, Nonempty (Elt F e)] : θ_run (defs (F := F)) (threads (F := F)) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c _ (mem_ucr main_arg0 rfl)).trans (W5_arg0 m c), (h.1 c _ (mem_ucr main_arg1 rfl)).trans (W5_arg1 m c)⟩, h.2⟩)
    (run_main m ρ)

theorem frameIdeal : Cert.quiescent_KernelIdeal := fun m ρ _ => run_args (F := Ideal) m ρ

/-- A named constant read as the bits it is printed with. -/
@[reducible] def plain : Named Bits := ⟨fun _ _ {φ} b => FloatOps.ofBits φ b⟩

attribute [local instance] plain
theorem sameBody0 : (Cert.Kernel.cc0_body (F := Bits)) = Cert.KernelIdeal.cc0_body (F := Bits) := rfl
theorem sameBody2 : (Cert.Kernel.cc2_body (F := Bits)) = Cert.KernelIdeal.cc2_body (F := Bits) := rfl
theorem samePart4 : (Cert.Kernel.k1_part4 (F := Bits)) = Cert.KernelIdeal.k1_part4 (F := Bits) := rfl
theorem samePart5 : (Cert.Kernel.k1_part5 (F := Bits)) = Cert.KernelIdeal.k1_part5 (F := Bits) := rfl
theorem sameGate : (Cert.Kernel.cc1_gate (F := Bits)) = Cert.KernelIdeal.cc1_gate (F := Bits) := rfl
theorem sameMain : (Cert.Kernel.main (F := Bits)) = Cert.KernelIdeal.main (F := Bits) := rfl

theorem sameDefs₀ : Cert.Kernel.defs₀ (F := Bits) = Cert.KernelIdeal.defs₀ (F := Bits) := by
  funext p ℓ
  match p, ℓ with
  | .tc, (0 : Fin 3) => rfl
  | .tc, (1 : Fin 3) => rfl
  | .tc, (2 : Fin 3) => rfl
  | .scVector c s, (0 : Fin 3) => rfl
  | .scVector c s, (1 : Fin 3) => rfl
  | .scVector c s, (2 : Fin 3) => rfl
  | .scScalar c, _ => rfl
theorem sameDefs : Cert.Kernel.defs (F := Bits) = Cert.KernelIdeal.defs (F := Bits) :=
  congrArg (fun D₀ => (sc (F := Bits)).defs (Pipeline.defs pcfgs D₀)) sameDefs₀

theorem sameThreads : Cert.Kernel.threads (F := Bits) = Cert.KernelIdeal.threads (F := Bits) := rfl

theorem frameKernel : Cert.quiescent_Kernel := fun m ρ _ => by
  rw [sameDefs, sameThreads]
  exact run_args (F := Bits) m ρ

end Cert.KernelIdeal.Gate

end
-- ==== Proof.Finite.lean ====
/- The precondition: every input is a real. -/
module

public import proofs.«01_k».proof.Pre_finite
public import Idealize.ShloMosaic.Lib.Pointwise
public import Idealize.ShloMosaic.Lib.IdealHost

@[expose] public section

noncomputable section

namespace Cert.Gate

open Idealize.ShloMosaic

theorem foldl_and {n : ℕ} (f : Fin n → BitVec 1) : ∀ (l : List (Fin n)) (r : BitVec 1), l.foldl (fun r k => IntOp.andi r (f k)) r = 1#1 → r = 1#1 ∧ ∀ k ∈ l, f k = 1#1 := by
  have h2 : ∀ a b : BitVec 1, IntOp.andi a b = 1#1 → a = 1#1 ∧ b = 1#1 := by decide
  intro l
  induction l with
  | nil => exact fun r h => ⟨h, fun k hk => absurd hk List.not_mem_nil⟩
  | cons a l ih =>
    intro r h
    obtain ⟨h1, h3⟩ := ih _ h
    obtain ⟨h4, h5⟩ := h2 _ _ h1
    refine ⟨h4, fun k hk => ?_⟩
    rcases List.mem_cons.mp hk with rfl | hk
    · exact h5
    · exact h3 k hk

/-- A conjunction over a whole array holds at each entry. -/
theorem reduce_and {s u : Shape} {axes : List (Fin s.rank)} (x : s.Idx → BitVec 1) (init : u.Idx → BitVec 1) (h : s.ReducesTo axes Cert.Pre_finite.S_) (hu : 0 < u.numel)
    (j : Cert.Pre_finite.S_.Idx) (hj : Host.reduce IntOp.andi x init h hu j = 1#1) (i : s.Idx) : x i = 1#1 := by
  have := (foldl_and (fun k => x (s.rowMajor.symm k)) _ _ hj).2 (s.rowMajor i) (List.mem_filter.mpr ⟨List.mem_finRange _, decide_eq_true (funext fun a => a.elim0)⟩)
  rwa [Equiv.symm_apply_apply] at this

theorem litTop : Ideal.ofBits .f32 0x7F800000#32 = ⊤ := by
  simp [Ideal.ofBits, Ideal.ieee]

theorem real_of_abs (z : EReal) (h : Ideal.cmp .olt (max z (-z)) ⊤ = 1#1) : ∃ r : ℝ, z = (r : EReal) := by
  induction z using EReal.rec with
  | bot => simp [Ideal.cmp] at h
  | coe r => exact ⟨r, rfl⟩
  | top => simp [Ideal.cmp] at h

variable [Cert.Pre_finite.Facts]

theorem finite_inputs {A : FVec Ideal Cert.Pre_finite.S4x8192x12 .f32} {B : FVec Ideal Cert.Pre_finite.S8x12 .f32} (h : Cert.Pre_finite.fn (F := Ideal) A B = fun _ => 1#1) :
    (∃ X : Cert.Pre_finite.S4x8192x12.Idx → ℝ, ∀ i, A i = ((X i : ℝ) : EReal)) ∧ ∃ W : Cert.Pre_finite.S8x12.Idx → ℝ, ∀ i, B i = ((W i : ℝ) : EReal) := by
  have h2 : ∀ a b : BitVec 1, IntOp.andi a b = 1#1 → a = 1#1 ∧ b = 1#1 := by decide
  have h0 := congrFun h ValueIdx.ix0
  obtain ⟨ha, hb⟩ := h2 _ _ h0
  have hA : ∀ i, ∃ r : ℝ, A i = (r : EReal) := fun i => by
    have := reduce_and _ _ _ _ _ ha i
    refine real_of_abs _ (Eq.trans ?_ this)
    rw [← litTop]
    rfl
  have hB : ∀ i, ∃ r : ℝ, B i = (r : EReal) := fun i => by
    have := reduce_and _ _ _ _ _ hb i
    refine real_of_abs _ (Eq.trans ?_ this)
    rw [← litTop]
    rfl
  choose X hX using hA
  choose W hW using hB
  exact ⟨⟨X, hX⟩, ⟨W, hW⟩⟩

end Cert.Gate

end
-- ==== Proof.Logits.lean ====
/- The first region's result: tile `w`'s block of the logits, each the product of a token's features and an expert's weights. -/
module

public import proofs.«01_k».proof.Proof.Run
public import Idealize.ShloMosaic.Lib.Pointwise

@[expose] public section

noncomputable section

namespace Cert.KernelIdeal.Gate

open Cert.KernelIdeal Cert.KernelIdeal.Gen
open Idealize.ShloMosaic hiding ix0 ix1 ix2 ix3 ix4 ix5
open Idealize.ShloMosaic.ValueIdx
open Idealize.ShloMosaic.Pipeline (Dat Window)

section

variable {F : FTy → Type} [FloatOps F] [Named F]
variable (V : (c : Dev nD) → (b : Ref sig .tc) → Buf (Elt F) ((SparseCore.T c : Thread nD τ).loc b))

theorem idx0_0 : ∀ (t : Fin grid0.N) (a : Fin 2), win0_0.index t a = 0 := by decide +kernel
theorem idx0_1 : ∀ (t : Fin grid0.N), win0_1.index t 0 = t.val ∧ win0_1.index t 1 = 0 := by decide +kernel
theorem idx0_2 : ∀ (t : Fin grid0.N), win0_2.index t 0 = t.val ∧ win0_2.index t 1 = 0 ∧ win0_2.index t 2 = 0 := by decide +kernel

/-- The weights' block is the whole array; -/
theorem blk0_0 (c : Dev nD) (t : Fin cfg0.N) (e : Fin 8) (k : Fin 12) : blk0 V c 0 t (ix2 e k) = V c main_arg1 (ix2 e k) := by
  refine congrArg (V c main_arg1) (funext fun a => Fin.ext ?_)
  refine (Window.rect_emb_val_of_index_zero win0_0 t a (idx0_0 t a) _).trans ?_
  fin_cases a <;> rfl

/-- the features' is tile `t`'s tokens. -/
theorem blk0_1 (c : Dev nD) (t : Fin cfg0.N) (x : Fin 1024) (k : Fin 12) (h : 1024 * t.val + x.val < 32768) :
    blk0 V c 1 t (ix2 x k) = V c main_v0 (ix2 ⟨1024 * t.val + x.val, h⟩ k) := by
  refine congrArg (V c main_v0) (funext fun a => Fin.ext ?_)
  refine (Window.rect_emb_val win0_1 t _ a).trans ?_
  match a with
  | ⟨0, _⟩ => rw [show win0_1.index t ⟨0, _⟩ = t.val from (idx0_1 t).1]; show t.val * 1024 + x.val = _; exact (by show t.val * 1024 + x.val = 1024 * t.val + x.val; omega)
  | ⟨1, _⟩ => rw [show win0_1.index t ⟨1, _⟩ = 0 from (idx0_1 t).2]; show 0 * 12 + k.val = k.val; omega

theorem emb0_2 (t : Fin cfg0.N) (y : S1x8x1024.Idx) : ((cfg0.win 2).blk t).view.emb y = (ix3 t (y 1) (y 2) : S32x8x1024.Idx) := by
  refine funext fun a => Fin.ext ?_
  refine (Window.rect_emb_val win0_2 t _ a).trans ?_
  match a with
  | ⟨0, _⟩ =>
    have h : (y 0).val < 1 := (y 0).isLt
    rw [show win0_2.index t ⟨0, _⟩ = t.val from (idx0_2 t).1]; show t.val * 1 + (y 0).val = t.val; omega
  | ⟨1, _⟩ => rw [show win0_2.index t ⟨1, _⟩ = 0 from (idx0_2 t).2.1]; show 0 * 8 + (y 1).val = (y 1).val; omega
  | ⟨2, _⟩ => rw [show win0_2.index t ⟨2, _⟩ = 0 from (idx0_2 t).2.2]; show 0 * 1024 + (y 2).val = (y 2).val; omega

/-- The array after the region: each tile's block. -/
theorem arr0_2 (n : ℕ) (c : Dev nD) :
    (dat0 V n c).arrAt 2 cfg0.N = fun i : S32x8x1024.Idx => lgBlk V c (i 0) (ix3 0 (i 1) (i 2)) := by
  refine (dat0 V n c).arrAt_eq_of_cover 2 (fun i : S32x8x1024.Idx => lgBlk V c (i 0) (ix3 0 (i 1) (i 2))) (fun t _ => ?_) fun i => ?_
  · funext y
    show lgBlk V c t y = (fun i : S32x8x1024.Idx => lgBlk V c (i 0) (ix3 0 (i 1) (i 2))) (((cfg0.win 2).blk t).view.emb y)
    rw [emb0_2]
    refine congrArg (lgBlk V c t) (funext fun a => Fin.ext ?_)
    have h : (y 0).val < 1 := (y 0).isLt
    match a with
    | ⟨0, _⟩ => show (y 0).val = 0; omega
    | ⟨1, _⟩ => rfl
    | ⟨2, _⟩ => rfl
  · refine ⟨i 0, flush0_2 _, Finset.mem_map.mpr ⟨ix3 0 (i 1) (i 2), Finset.mem_univ _, ?_⟩⟩
    exact (emb0_2 (i 0) (ix3 0 (i 1) (i 2))).trans (ValueIdx.eq_ix3 i).symm

end

/-- The first region's payload. -/
theorem pay0 (v0 : Vec Ideal S8x12 .f32) (v1 : Vec Ideal S1024x12 .f32) (e : Fin 8) (x : Fin 1024) :
    k0_pay1 v0 v1 (ix3 0 e x) = ∑ k : Fin 12, v0 (ix2 e k) * v1 (ix2 x k) := by
  pointwise [k0_pay1]
  refine Finset.sum_congr rfl fun k _ => ?_
  exact congrArg₂ (· * ·) (congrArg v0 (funext fun a => by fin_cases a <;> rfl)) (congrArg v1 (funext fun a => by fin_cases a <;> rfl))

end Cert.KernelIdeal.Gate

end
-- ==== Proof.Order.lean ====
/- The two greatest of eight numbers, the earlier of equals first: what it means, that it is unique, that a left-to-right
   scan finds it, and that a stable sort puts it in front. -/
module

public import Idealize.ShloMosaic.PureOps.Ideal
public import Idealize.ShloMosaic.Lib.SortPrefix

@[expose] public section

noncomputable section

namespace Cert.Gate

open Idealize.ShloMosaic

variable {α : Type} [LinearOrder α]

/-- `a` is the first of the greatest. -/
def IsTop (l : Fin 8 → α) (a : Fin 8) : Prop := ∀ e, l e ≤ l a ∧ (e < a → l e < l a)
/-- `b` is the first of the greatest of the entries other than `a`'s. -/
def IsSnd (l : Fin 8 → α) (a b : Fin 8) : Prop := b ≠ a ∧ ∀ e, e ≠ a → l e ≤ l b ∧ (e < b → l e < l b)

theorem IsTop.unique {l : Fin 8 → α} {a b : Fin 8} (ha : IsTop l a) (hb : IsTop l b) : a = b := by
  rcases lt_trichotomy a b with h | h | h
  · exact absurd ((hb a).2 h) (not_lt.mpr (ha b).1)
  · exact h
  · exact absurd ((ha b).2 h) (not_lt.mpr (hb a).1)

theorem IsSnd.unique {l : Fin 8 → α} {t a b : Fin 8} (ha : IsSnd l t a) (hb : IsSnd l t b) : a = b := by
  rcases lt_trichotomy a b with h | h | h
  · exact absurd ((hb.2 a ha.1).2 h) (not_lt.mpr (ha.2 b hb.1).1)
  · exact h
  · exact absurd ((ha.2 b hb.1).2 h) (not_lt.mpr (hb.2 a ha.1).1)

section Mono

variable {β : Type} [LinearOrder β] {f : α → β} {l : Fin 8 → α} {a b : Fin 8}

theorem IsTop.map (hf : StrictMono f) (h : IsTop l a) : IsTop (fun e => f (l e)) a :=
  fun e => ⟨hf.monotone (h e).1, fun he => hf ((h e).2 he)⟩
theorem IsTop.of_map (hf : StrictMono f) (h : IsTop (fun e => f (l e)) a) : IsTop l a :=
  fun e => ⟨hf.le_iff_le.mp (h e).1, fun he => hf.lt_iff_lt.mp ((h e).2 he)⟩
theorem IsSnd.map (hf : StrictMono f) (h : IsSnd l a b) : IsSnd (fun e => f (l e)) a b :=
  ⟨h.1, fun e hn => ⟨hf.monotone (h.2 e hn).1, fun he => hf ((h.2 e hn).2 he)⟩⟩
theorem IsSnd.of_map (hf : StrictMono f) (h : IsSnd (fun e => f (l e)) a b) : IsSnd l a b :=
  ⟨h.1, fun e hn => ⟨hf.le_iff_le.mp (h.2 e hn).1, fun he => hf.lt_iff_lt.mp ((h.2 e hn).2 he)⟩⟩

end Mono

/-! ## A scan from left to right -/

/-- The greatest value of the first `n` and its word. -/
def UpTo (l : Fin 8 → α) (n : Nat) (m : α) (i : BitVec 32) : Prop :=
  ∃ a : Fin 8, a.val < n ∧ i = BitVec.ofNat 32 a.val ∧ m = l a ∧ ∀ e : Fin 8, e.val < n → l e ≤ l a ∧ (e < a → l e < l a)

theorem upTo_one (l : Fin 8 → α) : UpTo l 1 (l 0) 0#32 :=
  ⟨0, Nat.one_pos, rfl, rfl, fun e he => by
    obtain rfl : e = 0 := Fin.ext (by simpa using he)
    exact ⟨le_rfl, fun h => absurd h (lt_irrefl _)⟩⟩

theorem UpTo.step {l : Fin 8 → α} {n : Nat} {m : α} {i : BitVec 32} (h : UpTo l n m i) (hn : n < 8) :
    UpTo l (n + 1) (if m < l ⟨n, hn⟩ then l ⟨n, hn⟩ else m) (if m < l ⟨n, hn⟩ then BitVec.ofNat 32 n else i) := by
  obtain ⟨a, ha, hi, hm, H⟩ := h
  by_cases hlt : m < l ⟨n, hn⟩
  · rw [if_pos hlt, if_pos hlt]
    refine ⟨⟨n, hn⟩, Nat.lt_succ_self n, rfl, rfl, fun e he => ?_⟩
    rcases Nat.lt_succ_iff_lt_or_eq.mp he with h' | h'
    · have h2 : l e < l ⟨n, hn⟩ := lt_of_le_of_lt (H e h').1 (hm ▸ hlt)
      exact ⟨h2.le, fun _ => h2⟩
    · obtain rfl : e = ⟨n, hn⟩ := Fin.ext h'
      exact ⟨le_rfl, fun h => absurd h (lt_irrefl _)⟩
  · rw [if_neg hlt, if_neg hlt]
    refine ⟨a, by omega, hi, hm, fun e he => ?_⟩
    rcases Nat.lt_succ_iff_lt_or_eq.mp he with h' | h'
    · exact H e h'
    · obtain rfl : e = ⟨n, hn⟩ := Fin.ext h'
      refine ⟨hm ▸ not_lt.mp hlt, fun h => absurd h (not_lt.mpr ?_)⟩
      exact Fin.le_def.mpr (show a.val ≤ n by omega)

theorem UpTo.top {l : Fin 8 → α} {m : α} {i : BitVec 32} (h : UpTo l 8 m i) :
    ∃ a : Fin 8, i = BitVec.ofNat 32 a.val ∧ m = l a ∧ IsTop l a := by
  obtain ⟨a, _, hi, hm, H⟩ := h
  exact ⟨a, hi, hm, fun e => H e e.isLt⟩

/-- With the winner's entry put out of the running, the scan finds the second. -/
theorem isSnd_of_masked {l : Fin 8 → ℝ} {a b : Fin 8} (h : IsTop (fun e => if e = a then (⊥ : EReal) else (l e : EReal)) b) :
    IsSnd l a b := by
  have hba : b ≠ a := by
    rintro rfl
    obtain ⟨e, he⟩ : ∃ e : Fin 8, e ≠ b := exists_ne b
    have := (h e).1
    simp only [if_neg he, if_true] at this
    exact EReal.coe_ne_bot _ (le_bot_iff.mp this)
  refine ⟨hba, fun e he => ?_⟩
  have := h e
  simp only [if_neg he, if_neg hba] at this
  exact ⟨EReal.coe_le_coe_iff.mp this.1, fun h' => EReal.coe_lt_coe_iff.mp (this.2 h')⟩

/-- The first of the greatest of a row, -/
def top (l : Fin 8 → ℝ) : Fin 8 := by
  classical exact if h : ∃ a, IsTop l a then h.choose else 0
/-- and of the others. -/
def top2 (l : Fin 8 → ℝ) : Fin 8 := by
  classical exact if h : ∃ b, IsSnd l (top l) b then h.choose else 0

theorem top_eq {l : Fin 8 → ℝ} {a : Fin 8} (h : IsTop l a) : top l = a := by
  have he : ∃ a, IsTop l a := ⟨a, h⟩
  unfold top; rw [dif_pos he]; exact he.choose_spec.unique h

theorem top2_eq {l : Fin 8 → ℝ} {b : Fin 8} (h : IsSnd l (top l) b) : top2 l = b := by
  have he : ∃ b, IsSnd l (top l) b := ⟨b, h⟩
  unfold top2; rw [dif_pos he]; exact he.choose_spec.unique h

theorem isTop_top (l : Fin 8 → ℝ) : IsTop l (top l) := by
  obtain ⟨a, -, -, h⟩ := ((((((((upTo_one l).step (by decide)).step (by decide)).step (by decide)).step (by decide)).step (by decide)).step
    (by decide)).step (by decide)).top
  exact top_eq h ▸ h

theorem isSnd_top2 (l : Fin 8 → ℝ) : IsSnd l (top l) (top2 l) := by
  obtain ⟨b, -, -, h⟩ := ((((((((upTo_one (fun e => if e = top l then (⊥ : EReal) else (l e : EReal))).step (by decide)).step
    (by decide)).step (by decide)).step (by decide)).step (by decide)).step (by decide)).step (by decide)).top
  have := isSnd_of_masked h
  exact top2_eq this ▸ this

theorem top2_ne (l : Fin 8 → ℝ) : top2 l ≠ top l := (isSnd_top2 l).1

/-! ## A stable sort -/

/-- A comparator and the same with ties broken by position sort an ascending list alike. -/
theorem stableSort_ties {n : Nat} (B B' : Fin n → Fin n → Bool) (h : ∀ a b : Fin n, a < b → B b a = B' b a) :
    ∀ l : List (Fin n), l.Pairwise (· < ·) → stableSort B l = stableSort B' l := by
  have hins : ∀ (a : Fin n) (l : List (Fin n)), (∀ b ∈ l, a < b) → insertBefore B a l = insertBefore B' a l := by
    intro a l
    induction l with
    | nil => intro _; rfl
    | cons b l ih =>
      intro hl
      unfold insertBefore
      rw [h a b (hl b List.mem_cons_self), ih fun c hc => hl c (List.mem_cons_of_mem _ hc)]
  intro l
  induction l with
  | nil => intro _; rfl
  | cons a l ih =>
    intro hl
    obtain ⟨h1, h2⟩ := List.pairwise_cons.mp hl
    unfold stableSort
    rw [ih h2]
    refine hins a _ fun b hb => h1 b ((perm_stableSort B' l).mem_iff.mp hb)

/-- Sorted by decreasing value, a row starts with its first greatest entry, then the second. -/
theorem sortedFrom_top {key : Fin 8 → EReal} {a b : Fin 8} (ha : IsTop key a) (hb : IsSnd key a b) :
    sortedFrom (fun k k' => Ideal.cmp .ogt (key k) (key k') == 1#1) 0 = a
      ∧ sortedFrom (fun k k' => Ideal.cmp .ogt (key k) (key k') == 1#1) 1 = b := by
  classical
  have hc : ∀ k k' : Fin 8, (Ideal.cmp .ogt (key k) (key k') == 1#1) = decide (key k' < key k) := fun k k' => by
    unfold Ideal.cmp
    by_cases hk : key k' < key k <;> simp [hk]
  have hB := StrictTotalBefore.of_key_then_position (n := 8) (κ := EReal) (fun x y => decide (y < x)) key (fun a => by simp)
    (fun a b c hab hbc => by simp only [decide_eq_true_eq] at *; exact hbc.trans hab)
    (fun a b => by rcases lt_trichotomy b a with h | h | h <;> simp [h])
  have hs : ∀ k : Fin 8, sortedFrom (fun k k' => Ideal.cmp .ogt (key k) (key k') == 1#1) k
      = sortedFrom (fun k k' : Fin 8 => decide (key k' < key k) || (decide (key k = key k') && decide (k < k'))) k := fun k => by
    have hp : sortPositions 8 (fun k k' => Ideal.cmp .ogt (key k) (key k') == 1#1)
        = sortPositions 8 (fun k k' : Fin 8 => decide (key k' < key k) || (decide (key k = key k') && decide (k < k'))) :=
      stableSort_ties _ _ (fun x y hxy => by rw [hc]; simp [not_lt.mpr hxy.le]) _ (List.pairwise_lt_finRange 8)
    unfold sortedFrom
    rw [List.get_of_eq hp]
    rfl
  rw [hs, hs]
  have key2 := hB.sortedFrom_eq_of_prefix (k := 2) (by decide) ![a, b]
    (by
      intro i j hij
      fin_cases i <;> fin_cases j
      · rfl
      · exact absurd hij (Ne.symm hb.1)
      · exact absurd hij hb.1
      · rfl)
    (by
      intro i j hij
      fin_cases i <;> fin_cases j
      · exact absurd hij (lt_irrefl _)
      · show (decide (key a < key b) || (decide (key b = key a) && decide (b < a))) = false
        have h1 := ha b
        by_cases hlt : b < a
        · simp [not_lt.mpr h1.1, (h1.2 hlt).ne]
        · simp [not_lt.mpr h1.1, hlt]
      · exact absurd hij (by decide)
      · exact absurd hij (lt_irrefl _))
    (by
      intro i p hp
      have hpa : p ≠ a := fun h => hp 0 h.symm
      fin_cases i
      · show (decide (key a < key p) || (decide (key p = key a) && decide (p < a))) = false
        have h1 := ha p
        by_cases hlt : p < a
        · simp [not_lt.mpr h1.1, (h1.2 hlt).ne]
        · simp [not_lt.mpr h1.1, hlt]
      · show (decide (key b < key p) || (decide (key p = key b) && decide (p < b))) = false
        have h1 := hb.2 p hpa
        by_cases hlt : p < b
        · simp [not_lt.mpr h1.1, (h1.2 hlt).ne]
        · simp [not_lt.mpr h1.1, hlt])
  exact ⟨key2 0, key2 1⟩

end Cert.Gate

end
-- ==== Proof.Lanes.lean ====
/- What a trip computes in each lane, at the exact reals: the two greatest logits' experts and their scores. -/
module

public import proofs.«01_k».proof.Proof.Values
public import proofs.«01_k».proof.Proof.Order
public import Idealize.ShloMosaic.Lib.Pointwise

@[expose] public section

noncomputable section

namespace Cert.KernelIdeal.Gate

open Cert.Gate
open Cert.KernelIdeal Cert.KernelIdeal.Gen
open Idealize.ShloMosaic hiding ix0 ix1 ix2 ix3 ix4 ix5
open Idealize.ShloMosaic.ValueIdx

/-- A compare-and-select takes the greater's. -/
theorem sel_gt {α : Type} (a b : EReal) (u v : α) : Scalar.select (FloatOps.cmpf (F := Ideal) (φ := .f32) .ogt a b) u v = if b < a then u else v := by
  show Scalar.select (Ideal.cmp .ogt a b) u v = _
  unfold Ideal.cmp
  by_cases h : b < a
  · rw [if_pos h, decide_eq_true h]; rfl
  · rw [if_neg h, decide_eq_false h]; rfl

theorem sel_eq {α : Type} (a b : BitVec 32) (u v : α) : Scalar.select (IntOp.cmpi .eq a b) u v = if a = b then u else v := by
  by_cases h : a = b
  · subst h; simp [IntOp.cmpi, Scalar.select]
  · have hb : (a == b) = false := by simpa using h
    rw [if_neg h]; simp [IntOp.cmpi, Scalar.select, hb]

theorem cast_row (v : Vec Ideal S1x16 .f32) (x : Fin 16) : shapeCast S16 v shapeCasts_S1x16_S16 (ix1 x) = v (ix2 0 x) := by
  pointwise
  exact congrArg v (funext fun a => by fin_cases a <;> rfl)

/-- A scan's first value -/
theorem _root_.Cert.Gate.UpTo.first {L : Fin 8 → EReal} {v : EReal} (hv : v = L 0) : UpTo L 1 v 0#32 := hv ▸ upTo_one L
/-- and its next. -/
theorem _root_.Cert.Gate.UpTo.next {L : Fin 8 → EReal} {n : Nat} {m : EReal} {i : BitVec 32} (h : UpTo L n m i) (hn : n < 8) {v : EReal} (hv : v = L ⟨n, hn⟩) :
    UpTo L (n + 1) (Scalar.select (FloatOps.cmpf (F := Ideal) (φ := .f32) .ogt v m) v m)
      (Scalar.select (FloatOps.cmpf (F := Ideal) (φ := .f32) .ogt v m) (BitVec.ofNat 32 n) i) := by
  rw [sel_gt, sel_gt, hv]
  exact h.step hn

section

variable {w : Fin 8 → Vec Ideal S1x16 .f32} {x : Fin 16} {l : Fin 8 → ℝ} (hw : ∀ e, w e (ix2 0 x) = ((l e : ℝ) : EReal))
include hw

/-- The first expert. -/
theorem m1_i1 : m1 w (ix1 x) = ((l (top l) : ℝ) : EReal) ∧ i1 w (ix1 x) = BitVec.ofNat 32 (top l).val := by
  have h : UpTo (fun e => ((l e : ℝ) : EReal)) 8 (m1 w (ix1 x)) (i1 w (ix1 x)) := by
    have e0 : k1_pay1 (w 0) (ix1 x) = ((l 0 : ℝ) : EReal) := (cast_row _ _).trans (hw 0)
    have e1 : k1_pay2 (w 1) (ix1 x) = ((l 1 : ℝ) : EReal) := (cast_row _ _).trans (hw 1)
    have e2 : k1_pay3 (w 2) (ix1 x) = ((l 2 : ℝ) : EReal) := (cast_row _ _).trans (hw 2)
    have e3 : k1_pay4 (w 3) (ix1 x) = ((l 3 : ℝ) : EReal) := (cast_row _ _).trans (hw 3)
    have e4 : k1_pay5 (w 4) (ix1 x) = ((l 4 : ℝ) : EReal) := (cast_row _ _).trans (hw 4)
    have e5 : k1_pay6 (w 5) (ix1 x) = ((l 5 : ℝ) : EReal) := (cast_row _ _).trans (hw 5)
    have e6 : k1_pay7 (w 6) (ix1 x) = ((l 6 : ℝ) : EReal) := (cast_row _ _).trans (hw 6)
    have e7 : k1_pay8 (w 7) (ix1 x) = ((l 7 : ℝ) : EReal) := (cast_row _ _).trans (hw 7)
    unfold m1 i1
    generalize k1_pay1 (w 0) = v0 at *
    generalize k1_pay2 (w 1) = v1 at *
    generalize k1_pay3 (w 2) = v2 at *
    generalize k1_pay4 (w 3) = v3 at *
    generalize k1_pay5 (w 4) = v4 at *
    generalize k1_pay6 (w 5) = v5 at *
    generalize k1_pay7 (w 6) = v6 at *
    generalize k1_pay8 (w 7) = v7 at *
    have s1 : UpTo (fun e => ((l e : ℝ) : EReal)) 1 (v0 (ix1 x)) _ := UpTo.first e0
    have s2 : UpTo (fun e => ((l e : ℝ) : EReal)) 2 (k1_pay29 v0 v1 (ix1 x)) _ := s1.next (by decide) e1
    have s3 : UpTo (fun e => ((l e : ℝ) : EReal)) 3 (k1_pay31 v0 v1 v2 (ix1 x)) _ := s2.next (by decide) e2
    have s4 : UpTo (fun e => ((l e : ℝ) : EReal)) 4 (k1_pay33 v0 v1 v2 v3 (ix1 x)) _ := s3.next (by decide) e3
    have s5 : UpTo (fun e => ((l e : ℝ) : EReal)) 5 (k1_pay35 v0 v1 v2 v3 v4 (ix1 x)) _ := s4.next (by decide) e4
    have s6 : UpTo (fun e => ((l e : ℝ) : EReal)) 6 (k1_pay37 v0 v1 v2 v3 v4 v5 (ix1 x)) _ := s5.next (by decide) e5
    have s7 : UpTo (fun e => ((l e : ℝ) : EReal)) 7 (k1_pay39 v0 v1 v2 v3 v4 v5 v6 (ix1 x)) _ := s6.next (by decide) e6
    have s8 : UpTo (fun e => ((l e : ℝ) : EReal)) 8 (k1_pay41 v0 v1 v2 v3 v4 v5 v6 v7 (ix1 x)) _ := s7.next (by decide) e7
    exact s8
  obtain ⟨a, hi, hm, ht⟩ := h.top
  have : top l = a := top_eq (IsTop.of_map EReal.coe_strictMono ht)
  rw [this]
  exact ⟨hm, hi⟩

end

/-- The second's logit, the first's put out of the running. -/
def m2 (w : Fin 8 → Vec Ideal S1x16 .f32) : Vec Ideal S16 .f32 :=
  let v := k1_pay43 (k1_pay1 (w 0)) (i1 w)
  select (k1_pay70 (k1_pay2 (w 1)) (k1_pay3 (w 2)) (k1_pay4 (w 3)) (k1_pay5 (w 4)) (k1_pay6 (w 5)) (k1_pay7 (w 6)) (k1_pay8 (w 7)) (k1_pay27 (F := Ideal)) (i1 w) v)
    (k1_pay69 (k1_pay8 (w 7)) (k1_pay27 (F := Ideal)) (i1 w))
    (k1_pay67 (k1_pay2 (w 1)) (k1_pay3 (w 2)) (k1_pay4 (w 3)) (k1_pay5 (w 4)) (k1_pay6 (w 5)) (k1_pay7 (w 6)) (k1_pay27 (F := Ideal)) (i1 w) v)

theorem p2_eq (w : Fin 8 → Vec Ideal S1x16 .f32) (x : Fin 16) : p2 w (ix1 x) = Ideal.exp (m2 w (ix1 x)) * inv w (ix1 x) := rfl

/-- One masked logit. -/
theorem masked (v : Vec Ideal S16 .f32) (i : IVec S16 32) (x : Fin 16) (n : BitVec 32) {r : ℝ} (hv : v (ix1 x) = (r : EReal)) :
    select (cmpi .eq i (broadcast S16 n)) (k1_pay27 (F := Ideal)) v (ix1 x) = if i (ix1 x) = n then (⊥ : EReal) else (r : EReal) := by
  have hmask : (Named.named κ "mask" 0xF149F2CA#32 : Ideal .f32) = (⊥ : EReal) := IdealRules.named_const.ideal_named_scalar _ _ _ _ rfl
  rw [select_apply, hv]
  show Scalar.select (IntOp.cmpi .eq (i (ix1 x)) n) (Named.named κ "mask" 0xF149F2CA#32 : Ideal .f32) _ = _
  rw [sel_eq, hmask]

section

variable {w : Fin 8 → Vec Ideal S1x16 .f32} {x : Fin 16} {l : Fin 8 → ℝ} (hw : ∀ e, w e (ix2 0 x) = ((l e : ℝ) : EReal))
include hw

/-- The second, and its score: the scan with the first masked out. -/
theorem i2_eq : i2 w (ix1 x) = BitVec.ofNat 32 (top2 l).val
    ∧ p2 w (ix1 x) = Ideal.exp ((l (top2 l) : ℝ) : EReal) * inv w (ix1 x) := by
  have hne : ∀ n < 8, (i1 w (ix1 x) = BitVec.ofNat 32 n) ↔ (n = (top l).val) := fun n hn => by
    rw [(m1_i1 hw).2]
    refine ⟨fun h => ?_, fun h => by rw [h]⟩
    have := congrArg BitVec.toNat h
    simp only [BitVec.toNat_ofNat] at this
    have h2 := (top l).isLt
    omega
  have hmask : (Named.named κ "mask" 0xF149F2CA#32 : Ideal .f32) = (⊥ : EReal) := IdealRules.named_const.ideal_named_scalar _ _ _ _ rfl
  have hsel : ∀ (e : Fin 8), (if i1 w (ix1 x) = BitVec.ofNat 32 e.val then (⊥ : EReal) else ((l e : ℝ) : EReal))
      = (fun e => if e = top l then (⊥ : EReal) else (l e : EReal)) e := fun e =>
    if_congr ((hne e.val e.isLt).trans Fin.ext_iff.symm) rfl rfl
  have h0 := hsel 0; have h1 := hsel 1; have h2 := hsel 2; have h3 := hsel 3
  have h4 := hsel 4; have h5 := hsel 5; have h6 := hsel 6; have h7 := hsel 7
  obtain ⟨L, hL⟩ : ∃ L : Fin 8 → EReal, L = fun e => if e = top l then (⊥ : EReal) else (l e : EReal) := ⟨_, rfl⟩
  rw [← hL] at h0 h1 h2 h3 h4 h5 h6 h7
  have h : UpTo L 8 (m2 w (ix1 x)) (i2 w (ix1 x)) := by
    have e0 := (masked (k1_pay1 (w 0)) (i1 w) x 0#32 ((cast_row _ _).trans (hw 0))).trans h0
    have e1 := (masked (k1_pay2 (w 1)) (i1 w) x 1#32 ((cast_row _ _).trans (hw 1))).trans h1
    have e2 := (masked (k1_pay3 (w 2)) (i1 w) x 2#32 ((cast_row _ _).trans (hw 2))).trans h2
    have e3 := (masked (k1_pay4 (w 3)) (i1 w) x 3#32 ((cast_row _ _).trans (hw 3))).trans h3
    have e4 := (masked (k1_pay5 (w 4)) (i1 w) x 4#32 ((cast_row _ _).trans (hw 4))).trans h4
    have e5 := (masked (k1_pay6 (w 5)) (i1 w) x 5#32 ((cast_row _ _).trans (hw 5))).trans h5
    have e6 := (masked (k1_pay7 (w 6)) (i1 w) x 6#32 ((cast_row _ _).trans (hw 6))).trans h6
    have e7 := (masked (k1_pay8 (w 7)) (i1 w) x 7#32 ((cast_row _ _).trans (hw 7))).trans h7
    have d0 : (k1_pay43 (k1_pay1 (w 0)) (i1 w)) (ix1 x) = L 0 := e0
    have d1 : (k1_pay45 (k1_pay2 (w 1)) (k1_pay27 (F := Ideal)) (i1 w)) (ix1 x) = L 1 := e1
    have d2 : (k1_pay49 (k1_pay3 (w 2)) (k1_pay27 (F := Ideal)) (i1 w)) (ix1 x) = L 2 := e2
    have d3 : (k1_pay53 (k1_pay4 (w 3)) (k1_pay27 (F := Ideal)) (i1 w)) (ix1 x) = L 3 := e3
    have d4 : (k1_pay57 (k1_pay5 (w 4)) (k1_pay27 (F := Ideal)) (i1 w)) (ix1 x) = L 4 := e4
    have d5 : (k1_pay61 (k1_pay6 (w 5)) (k1_pay27 (F := Ideal)) (i1 w)) (ix1 x) = L 5 := e5
    have d6 : (k1_pay65 (k1_pay7 (w 6)) (k1_pay27 (F := Ideal)) (i1 w)) (ix1 x) = L 6 := e6
    have d7 : (k1_pay69 (k1_pay8 (w 7)) (k1_pay27 (F := Ideal)) (i1 w)) (ix1 x) = L 7 := e7
    have s1 := UpTo.first d0
    have s2 : UpTo L 2 (k1_pay47 (k1_pay2 (w 1)) (k1_pay27 (F := Ideal)) (i1 w) (k1_pay43 (k1_pay1 (w 0)) (i1 w)) (ix1 x)) _ := s1.next (by decide) d1
    have s3 : UpTo L 3 (k1_pay51 (k1_pay2 (w 1)) (k1_pay3 (w 2)) (k1_pay27 (F := Ideal)) (i1 w) (k1_pay43 (k1_pay1 (w 0)) (i1 w)) (ix1 x)) _ := s2.next (by decide) d2
    have s4 : UpTo L 4 (k1_pay55 (k1_pay2 (w 1)) (k1_pay3 (w 2)) (k1_pay4 (w 3)) (k1_pay27 (F := Ideal)) (i1 w) (k1_pay43 (k1_pay1 (w 0)) (i1 w)) (ix1 x)) _ := s3.next (by decide) d3
    have s5 : UpTo L 5 (k1_pay59 (k1_pay2 (w 1)) (k1_pay3 (w 2)) (k1_pay4 (w 3)) (k1_pay5 (w 4)) (k1_pay27 (F := Ideal)) (i1 w) (k1_pay43 (k1_pay1 (w 0)) (i1 w)) (ix1 x)) _ := s4.next (by decide) d4
    have s6 : UpTo L 6 (k1_pay63 (k1_pay2 (w 1)) (k1_pay3 (w 2)) (k1_pay4 (w 3)) (k1_pay5 (w 4)) (k1_pay6 (w 5)) (k1_pay27 (F := Ideal)) (i1 w) (k1_pay43 (k1_pay1 (w 0)) (i1 w)) (ix1 x)) _ := s5.next (by decide) d5
    have s7 : UpTo L 7 (k1_pay67 (k1_pay2 (w 1)) (k1_pay3 (w 2)) (k1_pay4 (w 3)) (k1_pay5 (w 4)) (k1_pay6 (w 5)) (k1_pay7 (w 6)) (k1_pay27 (F := Ideal)) (i1 w) (k1_pay43 (k1_pay1 (w 0)) (i1 w)) (ix1 x)) _ := s6.next (by decide) d6
    have s8 : UpTo L 8 (m2 w (ix1 x)) _ := s7.next (by decide) d7
    exact s8
  rw [p2_eq]
  rw [hL] at h
  obtain ⟨b, hi, hm, ht⟩ := h.top
  have hs := isSnd_of_masked ht
  have hb : top2 l = b := top2_eq hs
  simp only [if_neg hs.1] at hm
  rw [hb, hm]
  exact ⟨hi, rfl⟩

end

end Cert.KernelIdeal.Gate

end
-- ==== Proof.Spec.lean ====
/- The gate's results as plain real mathematics of the logits. -/
module

public import proofs.«01_k».proof.Proof.Order
public import Idealize.ShloMosaic.Lib.Pointwise

@[expose] public section

noncomputable section

namespace Cert.Gate

/-- A real sum among the extended reals. -/
theorem coe_sum {ι : Type} [Fintype ι] (f : ι → ℝ) : ((∑ i, f i : ℝ) : EReal) = ∑ i, (f i : EReal) :=
  map_sum (⟨⟨fun x : ℝ => (x : EReal), EReal.coe_zero⟩, EReal.coe_add⟩ : ℝ →+ EReal) f Finset.univ

/-- The score of expert `e`: softmax. -/
def scr (l : Fin 8 → ℝ) (e : Fin 8) : ℝ := Real.exp (l e) / ∑ k, Real.exp (l k)
/-- How often a token selects expert `e`, -/
def hit (l : Fin 8 → ℝ) (e : ℕ) : ℝ := (if e = (top l).val then 1 else 0) + if e = (top2 l).val then 1 else 0
/-- and whether it selects an expert of device `d`, two experts to a device. -/
def dhit (l : Fin 8 → ℝ) (d : ℕ) : ℝ :=
  (if d = (top l).val / 2 then 1 else 0) + if (top2 l).val / 2 ≠ (top l).val / 2 ∧ d = (top2 l).val / 2 then 1 else 0

theorem sum_exp_pos (l : Fin 8 → ℝ) : 0 < ∑ k, Real.exp (l k) := Finset.sum_pos (fun _ _ => Real.exp_pos _) ⟨0, Finset.mem_univ _⟩

/-- Token `s` of batch entry `b`. -/
def tk (b : Fin 4) (s : Fin 8192) : Fin 32768 := ⟨8192 * b.val + s.val, by omega⟩
/-- Expert `k` of device `d`. -/
def ex (d : Fin 4) (k : Fin 2) : Fin 8 := ⟨2 * d.val + k.val, by omega⟩

section

variable (L : Fin 32768 → Fin 8 → ℝ)

/-- A batch entry's expert counts, -/
def cnt (b : Fin 4) (e : ℕ) : ℝ := ∑ s, hit (L (tk b s)) e
/-- device counts -/
def dcn (b : Fin 4) (d : ℕ) : ℝ := ∑ s, dhit (L (tk b s)) d
/-- and score sums. -/
def scs (b : Fin 4) (e : Fin 8) : ℝ := ∑ s, scr (L (tk b s)) e

/-- The mean scores of a device's experts, added. -/
def pg (b : Fin 4) (d : Fin 4) : ℝ := ∑ k : Fin 2, scs L b (ex d k) / 8192

/-- A quarter of the loss weight, `f32(0.001) / 4`. -/
def c4 : ℝ := 8589935 / 2 ^ 35

/-- The two losses. -/
def devBal : ℝ := (∑ b, ∑ d : Fin 4, ((∑ k : Fin 2, cnt L b (ex d k).val / 2048) / 2) * pg L b d) * c4
def comBal : ℝ := (∑ b, ∑ d : Fin 4, (dcn L b d.val / 2048) * pg L b d) * c4

end

/-- The logits of token `n`, row `n / 8192`, `n % 8192` of the features. -/
def lgt (X : (⟨3, ![4, 8192, 12]⟩ : Idealize.ShloMosaic.Shape).Idx → ℝ) (W : (⟨2, ![8, 12]⟩ : Idealize.ShloMosaic.Shape).Idx → ℝ) (n : Fin 32768) (e : Fin 8) : ℝ :=
  ∑ k : Fin 12, W (Idealize.ShloMosaic.ValueIdx.ix2 e k) * X (Idealize.ShloMosaic.ValueIdx.ix3 ⟨n.val / 8192, by omega⟩ ⟨n.val % 8192, by omega⟩ k)

/-! ## Tokens by tile, trip and lane -/

/-- Token `t` of tile `w`. -/
def tw (w : Fin 32) (t : Fin 1024) : Fin 32768 := ⟨1024 * w.val + t.val, by omega⟩
/-- Tile `k` of batch entry `b`. -/
def wt (b : Fin 4) (k : Fin 8) : Fin 32 := ⟨8 * b.val + k.val, by omega⟩
/-- Token of trip `t` and lane `x`. -/
def tl (t : Fin 64) (x : Fin 16) : Fin 1024 := ⟨16 * t.val + x.val, by omega⟩

theorem sum_tokens (b : Fin 4) (f : Fin 32768 → ℝ) :
    ∑ s, f (tk b s) = ∑ k : Fin 8, ∑ x : Fin 16, ∑ t : Fin 64, f (tw (wt b k) (tl t x)) := by
  have h1 : ∀ k : Fin 8, ∑ x : Fin 16, ∑ t : Fin 64, f (tw (wt b k) (tl t x)) = ∑ u : Fin 1024, f (tw (wt b k) u) := fun k => by
    rw [Finset.sum_comm, ← Fintype.sum_prod_type' (f := fun (t : Fin 64) (x : Fin 16) => f (tw (wt b k) (tl t x)))]
    refine Fintype.sum_equiv (finProdFinEquiv (m := 64) (n := 16)) _ (fun u : Fin 1024 => f (tw (wt b k) u)) fun p => ?_
    refine congrArg (fun u => f (tw (wt b k) u)) (Fin.ext ?_)
    show 16 * p.1.val + p.2.val = p.2.val + 16 * p.1.val
    omega
  rw [Finset.sum_congr rfl fun k _ => h1 k, ← Fintype.sum_prod_type' (f := fun (k : Fin 8) (u : Fin 1024) => f (tw (wt b k) u))]
  refine (Fintype.sum_equiv (finProdFinEquiv (m := 8) (n := 1024)) _ (fun s : Fin 8192 => f (tk b s)) fun p => ?_).symm
  refine congrArg f (Fin.ext ?_)
  show 1024 * (8 * b.val + p.1.val) + p.2.val = 8192 * b.val + (p.2.val + 1024 * p.1.val)
  omega

end Cert.Gate

end
-- ==== Proof.Stats.lean ====
/- A tile's results at the exact reals: the selected experts, their scores, the score sums and the counts. -/
module

public import proofs.«01_k».proof.Proof.Lanes
public import proofs.«01_k».proof.Proof.Spec
public import Idealize.ShloMosaic.Lib.IdealHost

@[expose] public section

noncomputable section

namespace Cert.KernelIdeal.Gate

open Cert.Gate
open Cert.KernelIdeal Cert.KernelIdeal.Gen
open Idealize.ShloMosaic hiding ix0 ix1 ix2 ix3 ix4 ix5
open Idealize.ShloMosaic.ValueIdx

theorem div_one_coe {y : ℝ} (h : y ≠ 0) : Ideal.div 1 (y : EReal) = ((1 / y : ℝ) : EReal) := by
  rw [Ideal.div_coe h, one_mul]

section Scores

variable {w : Fin 8 → Vec Ideal S1x16 .f32} {x : Fin 16} {l : Fin 8 → ℝ} (hw : ∀ e, w e (ix2 0 x) = ((l e : ℝ) : EReal))
include hw

theorem inv_eq : inv w (ix1 x) = ((1 / ∑ k, Real.exp (l k) : ℝ) : EReal) := by
  have h : inv w (ix1 x) = Ideal.div (Ideal.ofBits .f32 0x3F800000#32) (Ideal.exp (w 0 (ix2 0 x)) + Ideal.exp (w 1 (ix2 0 x)) + Ideal.exp (w 2 (ix2 0 x))
      + Ideal.exp (w 3 (ix2 0 x)) + Ideal.exp (w 4 (ix2 0 x)) + Ideal.exp (w 5 (ix2 0 x)) + Ideal.exp (w 6 (ix2 0 x)) + Ideal.exp (w 7 (ix2 0 x))) := by
    simp only [← cast_row]; rfl
  rw [h]
  simp only [hw, Ideal.exp_coe, ← EReal.coe_add, Ideal.ofBits_one_f32]
  rw [← div_one_coe (sum_exp_pos l).ne', Fin.sum_univ_eight]

theorem score_eq (e : Fin 8) : Ideal.exp ((l e : ℝ) : EReal) * inv w (ix1 x) = ((scr l e : ℝ) : EReal) := by
  rw [inv_eq hw, Ideal.exp_coe, ← EReal.coe_mul, scr, mul_one_div]

theorem p1_eq : p1 w (ix1 x) = ((scr l (top l) : ℝ) : EReal) := by
  have h : p1 w (ix1 x) = Ideal.exp (m1 w (ix1 x)) * inv w (ix1 x) := rfl
  rw [h, (m1_i1 hw).1, score_eq hw]

theorem p2_val : p2 w (ix1 x) = ((scr l (top2 l) : ℝ) : EReal) := by
  rw [(i2_eq hw).2, score_eq hw]

end Scores

/-! ## Sums over trips -/

theorem iter_sum {α : Type} (step : Fin 64 → α → α) (z : α) (π : α → EReal) (g : Fin 64 → ℝ) (h0 : π z = 0)
    (h : ∀ t a, π (step t a) = π a + (g t : EReal)) : π (iter step z 64) = ((∑ t, g t : ℝ) : EReal) := by
  have H : ∀ n (hn : n ≤ 64), π (iter step z n) = ((∑ t : Fin n, g (t.castLE hn) : ℝ) : EReal) := by
    intro n
    induction n with
    | zero => intro _; rw [Finset.univ_eq_empty, Finset.sum_empty]; exact h0
    | succ n ih =>
      intro hn
      rw [iter_succ step z ⟨n, hn⟩, h, Fin.sum_univ_castSucc, EReal.coe_add]
      show π (iter step z n) + _ = _
      rw [ih (by omega)]
      rfl
  exact H 64 le_rfl

/-- A scatter that adds, at a cell: the addends of the lanes that name it. -/
theorem storeIdx_add (f : Vec Ideal S16 .f32) (ix : IVec S16 32) (v : Vec Ideal S16 .f32) (mask : IVec S16 1)
    (h : ∀ (a : Fin 1) (x : S16.Idx), ((![ix] : Fin 1 → IVec S16 32) a x).toNat < S16.size a) (g : Fin 16 → ℝ) (hg : ∀ x, v (ix1 x) = (g x : EReal))
    (j : Fin 16) :
    storeIdx (F := Ideal) (e := .f32) f ![ix] v mask true h (ix1 j)
      = f (ix1 j) + ((∑ x : Fin 16, (if mask (ix1 x) = 1 ∧ j.val = (ix (ix1 x)).toNat then g x else 0) : ℝ) : EReal) := by
  have H : ∀ (l : List (Fin 16)) (y : EReal), l.foldl (fun y k => if mask (ix1 k) = 1 then
        if j.val = (ix (ix1 k)).toNat then y + v (ix1 k) else y else y) y
      = y + (((l.map fun x => if mask (ix1 x) = 1 ∧ j.val = (ix (ix1 x)).toNat then g x else 0).sum : ℝ) : EReal) := by
    intro l
    induction l with
    | nil => intro y; simp
    | cons k l ih =>
      intro y
      rw [List.foldl_cons, ih, List.map_cons, List.sum_cons, EReal.coe_add, ← add_assoc]
      congr 1
      by_cases hm : mask (ix1 k) = 1 <;> by_cases hj : j.val = (ix (ix1 k)).toNat
      · rw [if_pos hm, if_pos hj, if_pos ⟨hm, hj⟩, hg]
      · rw [if_pos hm, if_neg hj, if_neg (fun h => hj h.2), EReal.coe_zero, add_zero]
      · rw [if_neg hm, if_neg (fun h => hm h.1), EReal.coe_zero, add_zero]
      · rw [if_neg hm, if_neg (fun h => hm h.1), EReal.coe_zero, add_zero]
  refine (storeIdx_cell (F := Ideal) (e := .f32) f ix v mask true h (ix1 j)).trans ?_
  refine (H (List.finRange 16) (f (ix1 j))).trans ?_
  rw [← List.ofFn_eq_map, List.sum_ofFn]

section Tile

variable {lg : Vec Ideal S8x1024 .f32} {R : Fin 1024 → Fin 8 → ℝ} (hR : ∀ e t, lg (ix2 e t) = ((R t e : ℝ) : EReal))
include hR

theorem ldv_eq (t : Fin 64) (x : Fin 16) (e : Fin 8) : ldv lg t e (ix2 0 x) = ((R (tl t x) e : ℝ) : EReal) := hR e (tl t x)

theorem i1_toNat (t : Fin 64) (x : Fin 16) : (i1 (ldv lg t) (ix1 x)).toNat = (top (R (tl t x))).val := by
  rw [(m1_i1 (ldv_eq hR t x)).2, BitVec.toNat_ofNat]
  have := (top (R (tl t x))).isLt
  omega
theorem i2_toNat (t : Fin 64) (x : Fin 16) : (i2 (ldv lg t) (ix1 x)).toNat = (top2 (R (tl t x))).val := by
  rw [(i2_eq (ldv_eq hR t x)).1, BitVec.toNat_ofNat]
  have := (top2 (R (tl t x))).isLt
  omega

theorem ones_eq (x : Fin 16) : k1_pay76 (F := Ideal) (ix1 x) = ((1 : ℝ) : EReal) := (Ideal.ofBits_one_f32).trans EReal.coe_one.symm
theorem zeros_eq (x : Fin 16) : k1_pay75 (F := Ideal) (ix1 x) = 0 := Ideal.ofBits_zero_f32

/-- The expert counts -/
theorem cnts_eq (j : Fin 16) : cnts lg (ix1 j) = ((∑ t, ∑ x, hit (R (tl t x)) j.val : ℝ) : EReal) := by
  refine iter_sum (step9 lg) _ (fun a => a (ix1 j)) _ (zeros_eq hR j) fun t a => ?_
  show step9 lg t a (ix1 j) = _
  unfold step9
  rw [storeIdx_add _ _ _ _ _ (fun _ => 1) (ones_eq hR), storeIdx_add _ _ _ _ _ (fun _ => 1) (ones_eq hR), add_assoc, ← EReal.coe_add, ← Finset.sum_add_distrib]
  congr 2
  refine Finset.sum_congr rfl fun x _ => ?_
  unfold hit
  simp only [i1_toNat hR, i2_toNat hR, show (1#1 : BitVec 1) = 1 from rfl, true_and]

/-- and the device counts. -/
theorem devs_eq (j : Fin 16) : devs lg (ix1 j) = ((∑ t, ∑ x, dhit (R (tl t x)) j.val : ℝ) : EReal) := by
  refine iter_sum (step10 lg) _ (fun a => a (ix1 j)) _ (zeros_eq hR j) fun t a => ?_
  show step10 lg t a (ix1 j) = _
  unfold step10
  rw [storeIdx_add _ _ _ _ _ (fun _ => 1) (ones_eq hR), storeIdx_add _ _ _ _ _ (fun _ => 1) (ones_eq hR), add_assoc, ← EReal.coe_add, ← Finset.sum_add_distrib]
  congr 2
  refine Finset.sum_congr rfl fun x _ => ?_
  have h1 : (k1_pay79 (i1 (ldv lg t)) (ix1 x)).toNat = (top (R (tl t x))).val / 2 := by rw [shr_toNat, i1_toNat hR]
  have h2 : (k1_pay80 (i2 (ldv lg t)) (ix1 x)).toNat = (top2 (R (tl t x))).val / 2 := by
    show (k1_pay79 (i2 (ldv lg t)) (ix1 x)).toNat = _
    rw [shr_toNat, i2_toNat hR]
  have hm : (k1_pay81 (k1_pay79 (i1 (ldv lg t))) (k1_pay80 (i2 (ldv lg t))) (ix1 x) = 1)
      ↔ (top2 (R (tl t x))).val / 2 ≠ (top (R (tl t x))).val / 2 := by
    rw [← h1, ← h2]
    show IntOp.cmpi .ne (k1_pay80 (i2 (ldv lg t)) (ix1 x)) (k1_pay79 (i1 (ldv lg t)) (ix1 x)) = 1 ↔ _
    generalize k1_pay80 (i2 (ldv lg t)) (ix1 x) = a
    generalize k1_pay79 (i1 (ldv lg t)) (ix1 x) = b
    rw [← not_iff_not, not_not, ← BitVec.toNat_eq]
    by_cases hab : a = b
    · subst hab; simp [IntOp.cmpi]
    · have hb : (a != b) = true := by simpa using hab
      simp [IntOp.cmpi, hab, hb]
  unfold dhit
  simp only [h1, h2, hm, show (1#1 : BitVec 1) = 1 from rfl, true_and]

/-- The score sums. -/
theorem accs_eq (x : Fin 16) (e : Fin 8) : comp (accs lg) e.val (ix1 x) = ((∑ t, scr (R (tl t x)) e : ℝ) : EReal) := by
  refine iter_sum (stepA lg) _ (fun a => comp a e.val (ix1 x)) _ ?_ fun t a => ?_
  · fin_cases e <;> exact zeros_eq hR x
  · obtain ⟨a0, a1, a2, a3, a4, a5, a6, a7⟩ := a
    rw [← score_eq (ldv_eq hR t x) e, ← ldv_eq hR t x e, ← cast_row (ldv lg t e) x]
    fin_cases e <;> rfl

/-- The results of cell `k`. -/
theorem out7_eq (t : Fin 1024) (k : Fin 2) (h : 2 * t.val + k.val < 2048) :
    out7 lg (ix1 ⟨2 * t.val + k.val, h⟩) = BitVec.ofNat 32 (if k = 0 then top (R t) else top2 (R t)).val := by
  have ht : tl (cellT (2 * t.val + k.val) h) (cellX (2 * t.val + k.val)) = t := Fin.ext (by
    show 16 * ((2 * t.val + k.val) / 32) + (2 * t.val + k.val) / 2 % 16 = t.val
    omega)
  have hx := ldv_eq hR (cellT (2 * t.val + k.val) h) (cellX (2 * t.val + k.val))
  rw [ht] at hx
  show (if (2 * t.val + k.val) % 2 = 0 then i1 (ldv lg (cellT (2 * t.val + k.val) h)) (ix1 (cellX (2 * t.val + k.val)))
    else i2 (ldv lg (cellT (2 * t.val + k.val) h)) (ix1 (cellX (2 * t.val + k.val)))) = _
  rw [(m1_i1 hx).2, (i2_eq hx).1]
  by_cases hk : k = 0
  · subst hk; rw [if_pos (by simp), if_pos rfl]
  · have : k.val ≠ 0 := fun h => hk (Fin.ext h)
    rw [if_neg (by omega), if_neg hk]

theorem out8_eq (t : Fin 1024) (k : Fin 2) (h : 2 * t.val + k.val < 2048) :
    out8 lg (ix1 ⟨2 * t.val + k.val, h⟩) = ((scr (R t) (if k = 0 then top (R t) else top2 (R t)) : ℝ) : EReal) := by
  have ht : tl (cellT (2 * t.val + k.val) h) (cellX (2 * t.val + k.val)) = t := Fin.ext (by
    show 16 * ((2 * t.val + k.val) / 32) + (2 * t.val + k.val) / 2 % 16 = t.val
    omega)
  have hx := ldv_eq hR (cellT (2 * t.val + k.val) h) (cellX (2 * t.val + k.val))
  rw [ht] at hx
  show (if (2 * t.val + k.val) % 2 = 0 then p1 (ldv lg (cellT (2 * t.val + k.val) h)) (ix1 (cellX (2 * t.val + k.val)))
    else p2 (ldv lg (cellT (2 * t.val + k.val) h)) (ix1 (cellX (2 * t.val + k.val)))) = _
  rw [p1_eq hx, p2_val hx]
  by_cases hk : k = 0
  · subst hk; rw [if_pos (by simp), if_pos rfl]
  · have : k.val ≠ 0 := fun h => hk (Fin.ext h)
    rw [if_neg (by omega), if_neg hk]

end Tile

end Cert.KernelIdeal.Gate

end
-- ==== Proof.Results.lean ====
/- The kernel's four results, from real inputs. -/
module

public import proofs.«01_k».proof.Proof.Logits
public import proofs.«01_k».proof.Proof.Frames
public import proofs.«01_k».proof.Proof.Stats

@[expose] public section

noncomputable section

namespace Cert.KernelIdeal.Gate

open Cert.KernelIdeal Cert.KernelIdeal.Gen Cert.Gate
open Idealize.ShloMosaic hiding ix0 ix1 ix2 ix3 ix4 ix5
open Idealize.ShloMosaic.ValueIdx
open Idealize.ShloMosaic.Pipeline (Dat Window)

section

variable {F : FTy → Type} [FloatOps F] [Named F]
variable (V : (c : Dev nD) → (b : Ref sig .tc) → Buf (Elt F) ((SparseCore.T c : Thread nD τ).loc b))

theorem idx2_0 : ∀ (t : Fin grid2.N) (a : Fin 3), win2_0.index t a = 0 := by decide +kernel
theorem idx2_1 : ∀ (t : Fin grid2.N) (a : Fin 2), win2_1.index t a = 0 := by decide +kernel
theorem idx2_2 : ∀ (t : Fin grid2.N) (a : Fin 2), win2_2.index t a = 0 := by decide +kernel

theorem emb2_1 (t : Fin cfg2.N) (y : S1x1.Idx) : ((cfg2.win 1).blk t).view.emb y = y :=
  funext fun a => Fin.ext (Window.rect_emb_val_of_index_zero win2_1 t a (idx2_1 t a) _)
theorem emb2_2 (t : Fin cfg2.N) (y : S1x1.Idx) : ((cfg2.win 2).blk t).view.emb y = y :=
  funext fun a => Fin.ext (Window.rect_emb_val_of_index_zero win2_2 t a (idx2_2 t a) _)

theorem blk2_0 (c : Dev nD) (t : Fin cfg2.N) : (blk2 V c 0 t : Vec F S32x10x16 .f32) = V c main_v2_2 :=
  funext fun y => congrArg (V c main_v2_2) (funext fun a => Fin.ext (Window.rect_emb_val_of_index_zero win2_0 t a (idx2_0 t a) y))

/-- The last region's one point. -/
def last2 : Fin cfg2.N := ⟨0, by decide⟩

/-- The last region's results. -/
theorem arr2_1 (n : ℕ) (c : Dev nD) : (dat2 V n c).arrAt 1 cfg2.N = divOut (V c main_v2_2) := by
  refine (dat2 V n c).arrAt_eq_of_cover 1 (divOut (V c main_v2_2)) (fun t _ => ?_) fun i => ⟨last2, flush2_1 last2, Finset.mem_map.mpr ⟨i, Finset.mem_univ _, emb2_1 last2 i⟩⟩
  funext y
  show divOut (blk2 V c 0 t) y = divOut (V c main_v2_2) (((cfg2.win 1).blk t).view.emb y)
  rw [emb2_1, blk2_0]
theorem arr2_2 (n : ℕ) (c : Dev nD) : (dat2 V n c).arrAt 2 cfg2.N = comOut (V c main_v2_2) := by
  refine (dat2 V n c).arrAt_eq_of_cover 2 (comOut (V c main_v2_2)) (fun t _ => ?_) fun i => ⟨last2, flush2_2 last2, Finset.mem_map.mpr ⟨i, Finset.mem_univ _, emb2_2 last2 i⟩⟩
  funext y
  show comOut (blk2 V c 0 t) y = comOut (V c main_v2_2) (((cfg2.win 2).blk t).view.emb y)
  rw [emb2_2, blk2_0]

end

section

variable {F : FTy → Type} [FloatOps F] [Named F] (m : (ℓ : Loc nD τ sig) → Buf (Elt F) ℓ) (d : Dev nD)

theorem W1_v0 : W1 m d (dr main_v0) = shapeCast S32768x12 (m (d, dr main_arg0)) shapeCasts_S4x8192x12_S32768x12 := StableHlo.reshape_result ..

theorem v2_eq : W4 m d (dr main_v2_0) = O7 (Bl m d) := (W4_ne m d main_v2_0 (by decide) (by decide)).trans (W3_v20 m d)
theorem v21_eq : W4 m d (dr main_v2_1) = O8 (Bl m d) := (W4_ne m d main_v2_1 (by decide) (by decide)).trans (W3_v21 m d)

theorem W5_v4 : W5 m d (dr main_v4) = shapeCast S32768x2 (O7 (Bl m d)) shapeCasts_S65536_S32768x2 := by
  unfold W5 opA opB opC opD
  rw [StableHlo.reshape_result_ne _ _ _ _ _ _ _ (by decide), StableHlo.reshape_result_ne _ _ _ _ _ _ _ (by decide),
    StableHlo.reshape_result_ne _ _ _ _ _ _ _ (by decide), ← v2_eq]
  exact StableHlo.reshape_result ..
theorem W5_v5 : W5 m d (dr main_v5) = shapeCast S32768x2 (O8 (Bl m d)) shapeCasts_S65536_S32768x2 := by
  unfold W5 opB opC opD
  rw [StableHlo.reshape_result_ne _ _ _ _ _ _ _ (by decide), StableHlo.reshape_result_ne _ _ _ _ _ _ _ (by decide), ← v21_eq]
  refine (StableHlo.reshape_result ..).trans ?_
  unfold opA
  rw [StableHlo.reshape_result_ne _ _ _ _ _ _ _ (by decide)]
  rfl
theorem W5_v6 : W5 m d (dr main_v6) = shapeCast S_ (divOut (OS (Bl m d))) shapeCasts_S1x1_S_ := by
  unfold W5 opC opD
  rw [StableHlo.reshape_result_ne _ _ _ _ _ _ _ (by decide)]
  refine (StableHlo.reshape_result ..).trans ?_
  unfold opA opB
  rw [StableHlo.reshape_result_ne _ _ _ _ _ _ _ (by decide), StableHlo.reshape_result_ne _ _ _ _ _ _ _ (by decide), W4_v30, arr2_1]
  show shapeCast S_ (divOut (W3 m d (dr main_v2_2))) shapeCasts_S1x1_S_ = _
  rw [W3_v22]
theorem W5_v7 : W5 m d (dr main_v7) = shapeCast S_ (comOut (OS (Bl m d))) shapeCasts_S1x1_S_ := by
  unfold W5 opD
  refine (StableHlo.reshape_result ..).trans ?_
  unfold opA opB opC
  rw [StableHlo.reshape_result_ne _ _ _ _ _ _ _ (by decide), StableHlo.reshape_result_ne _ _ _ _ _ _ _ (by decide),
    StableHlo.reshape_result_ne _ _ _ _ _ _ _ (by decide), W4_v31, arr2_2]
  show shapeCast S_ (comOut (W3 m d (dr main_v2_2))) shapeCasts_S1x1_S_ = _
  rw [W3_v22]

end

section

variable (m : (ℓ : Loc nD τ sig) → Buf (Elt Ideal) ℓ) (d : Dev nD) (X : S4x8192x12.Idx → ℝ) (W : S8x12.Idx → ℝ)
variable (hX : ∀ i, m (d, dr main_arg0) i = ((X i : ℝ) : EReal)) (hW : ∀ i, m (d, dr main_arg1) i = ((W i : ℝ) : EReal))
include hX hW

/-- The logits. -/
theorem Bl_eq (w : Fin 32) (e : Fin 8) (t : Fin 1024) : Bl m d (ix3 w e t) = ((lgt X W (tw w t) e : ℝ) : EReal) := by
  have h := congrFun (arr0_2 (vt (W1 m)) 0 d) (ix3 w e t)
  refine h.trans ((pay0 _ _ e t).trans ?_)
  unfold lgt
  rw [coe_sum]
  refine Finset.sum_congr rfl fun k _ => ?_
  rw [EReal.coe_mul]
  have hw : 1024 * w.val + t.val < 32768 := by omega
  refine congrArg₂ (· * ·) ((blk0_0 _ _ _ e k).trans ?_) ((blk0_1 _ _ w t k hw).trans ?_)
  · show W1 m d (dr main_arg1) _ = _
    rw [W1_ne m d main_arg1 (by decide)]
    exact hW _
  · show W1 m d (dr main_v0) _ = _
    rw [W1_v0]
    refine (shapeCast_apply _ _ _ (ix3 ⟨(tw w t).val / 8192, by omega⟩ ⟨(tw w t).val % 8192, by omega⟩ k) ?_).trans (hX _)
    rw [Shape.rowMajor_val_three, Shape.rowMajor_val_two]
    show ((tw w t).val / 8192 * 8192 + (tw w t).val % 8192) * 12 + k.val = (1024 * w.val + t.val) * 12 + k.val
    have : (tw w t).val = 1024 * w.val + t.val := rfl
    omega

theorem row_eq (w : Fin 32) (e : Fin 8) (t : Fin 1024) : lgRow (Bl m d) w (ix2 e t) = ((lgt X W (tw w t) e : ℝ) : EReal) := Bl_eq m d X W hX hW w e t

/-- The indices -/
theorem idx_eq (n : Fin 32768) (k : Fin 2) : W5 m d (dr main_v4) (ix2 n k) = BitVec.ofNat 32 (if k = 0 then top (lgt X W n) else top2 (lgt X W n)).val := by
  rw [W5_v4]
  refine (shapeCast_apply _ _ _ (ix1 ⟨2 * n.val + k.val, by omega⟩) ?_).trans ?_
  · rw [Shape.rowMajor_val_one, Shape.rowMajor_val_two]
    show 2 * n.val + k.val = n.val * 2 + k.val
    omega
  · have hw : (2 * n.val + k.val) / 2048 < 32 := by omega
    have ht : n.val % 1024 < 1024 := by omega
    have e : (2 * n.val + k.val) % 2048 = 2 * (n.val % 1024) + k.val := by omega
    have hn : n = tw ⟨(2 * n.val + k.val) / 2048, hw⟩ ⟨n.val % 1024, ht⟩ := Fin.ext (by show n.val = 1024 * ((2 * n.val + k.val) / 2048) + n.val % 1024; omega)
    have h := out7_eq (row_eq m d X W hX hW ⟨(2 * n.val + k.val) / 2048, hw⟩) ⟨n.val % 1024, ht⟩ k (by omega)
    rw [← hn] at h
    refine Eq.trans ?_ h
    exact congrArg (fun j => out7 (lgRow (Bl m d) ⟨(2 * n.val + k.val) / 2048, hw⟩) (ix1 j)) (Fin.ext e)

/-- and their scores. -/
theorem val_eq (n : Fin 32768) (k : Fin 2) : W5 m d (dr main_v5) (ix2 n k) = ((scr (lgt X W n) (if k = 0 then top (lgt X W n) else top2 (lgt X W n)) : ℝ) : EReal) := by
  rw [W5_v5]
  refine (shapeCast_apply _ _ _ (ix1 ⟨2 * n.val + k.val, by omega⟩) ?_).trans ?_
  · rw [Shape.rowMajor_val_one, Shape.rowMajor_val_two]
    show 2 * n.val + k.val = n.val * 2 + k.val
    omega
  · have hw : (2 * n.val + k.val) / 2048 < 32 := by omega
    have ht : n.val % 1024 < 1024 := by omega
    have e : (2 * n.val + k.val) % 2048 = 2 * (n.val % 1024) + k.val := by omega
    have hn : n = tw ⟨(2 * n.val + k.val) / 2048, hw⟩ ⟨n.val % 1024, ht⟩ := Fin.ext (by show n.val = 1024 * ((2 * n.val + k.val) / 2048) + n.val % 1024; omega)
    have h := out8_eq (row_eq m d X W hX hW ⟨(2 * n.val + k.val) / 2048, hw⟩) ⟨n.val % 1024, ht⟩ k (by omega)
    rw [← hn] at h
    refine Eq.trans ?_ h
    exact congrArg (fun j => out8 (lgRow (Bl m d) ⟨(2 * n.val + k.val) / 2048, hw⟩) (ix1 j)) (Fin.ext e)

end

end Cert.KernelIdeal.Gate

end
-- ==== Proof.Epilogue.lean ====
/- The last region at the exact reals: the two losses, from the statistics of the tiles. -/
module

public import proofs.«01_k».proof.Proof.Region
public import proofs.«01_k».proof.Proof.Spec
public import Idealize.ShloMosaic.Lib.Pointwise

@[expose] public section

noncomputable section

namespace Cert.KernelIdeal.Gate

open Cert.KernelIdeal Cert.KernelIdeal.Gen Cert.Gate
open Idealize.ShloMosaic hiding ix0 ix1 ix2 ix3 ix4 ix5
open Idealize.ShloMosaic.ValueIdx

/-- The selection of a batch entry's tiles, -/
theorem pay5_eq (b : Fin 4) (w : Fin 32) : k2_pay5 (F := Ideal) (ix2 b w) = (((if w.val / 8 = b.val then 1 else 0 : ℝ)) : EReal) := by
  have h : ∃ Z : Fin 4 → Fin 32 → BitVec 32, (∀ b w, k2_pay5 (F := Ideal) (ix2 b w) = (((Z b w).toInt : ℝ) : EReal))
      ∧ ∀ b w, Z b w = if w.val / 8 = b.val then 1#32 else 0#32 := ⟨_, fun b w => rfl, by decide +kernel⟩
  obtain ⟨Z, h1, h2⟩ := h
  rw [h1, h2]
  split <;> simp
/-- and of a device's experts. -/
theorem pay8_eq (e : Fin 8) (d : Fin 4) : k2_pay8 (F := Ideal) (ix2 e d) = (((if e.val / 2 = d.val then 1 else 0 : ℝ)) : EReal) := by
  have h : ∃ Z : Fin 8 → Fin 4 → BitVec 32, (∀ e d, k2_pay8 (F := Ideal) (ix2 e d) = (((Z e d).toInt : ℝ) : EReal))
      ∧ ∀ e d, Z e d = if e.val / 2 = d.val then 1#32 else 0#32 := ⟨_, fun e d => rfl, by decide +kernel⟩
  obtain ⟨Z, h1, h2⟩ := h
  rw [h1, h2]
  split <;> simp

theorem sum_tiles (b : Fin 4) (f : Fin 32 → ℝ) : ∑ w : Fin 32, (if w.val / 8 = b.val then 1 else 0) * f w = ∑ k : Fin 8, f (wt b k) := by
  rw [← Fintype.sum_equiv (finProdFinEquiv (m := 4) (n := 8)) (fun p => (if p.1 = b then 1 else 0) * f (wt p.1 p.2)) _ fun p => ?_]
  · rw [Fintype.sum_prod_type]
    simp [← Finset.mul_sum]
  · have hv : (finProdFinEquiv (m := 4) (n := 8) p).val = p.2.val + 8 * p.1.val := rfl
    have e : finProdFinEquiv (m := 4) (n := 8) p = wt p.1 p.2 := Fin.ext (by rw [hv]; show _ = 8 * p.1.val + p.2.val; omega)
    rw [e]
    have e2 : (wt p.1 p.2).val / 8 = p.1.val := by show (8 * p.1.val + p.2.val) / 8 = _; omega
    rw [e2]
    simp [Fin.ext_iff]
theorem sum_experts (d : Fin 4) (f : Fin 8 → ℝ) : ∑ e : Fin 8, f e * (if e.val / 2 = d.val then 1 else 0) = ∑ k : Fin 2, f (ex d k) := by
  fin_cases d <;> simp [Fin.sum_univ_eight, Fin.sum_univ_two, ex]

theorem lit8192 : Ideal.ofBits .f32 0x39000000#32 = ((1 / 8192 : ℝ) : EReal) := by
  simp [Ideal.ofBits, Ideal.ieee, -EReal.coe_mul]; norm_num
theorem lit2048 : Ideal.ofBits .f32 0x3A000000#32 = ((1 / 2048 : ℝ) : EReal) := by
  simp [Ideal.ofBits, Ideal.ieee, -EReal.coe_mul]; norm_num
theorem litHalf : Ideal.ofBits .f32 0x3F000000#32 = ((1 / 2 : ℝ) : EReal) := by
  simp [Ideal.ofBits, Ideal.ieee, -EReal.coe_mul]; norm_num
theorem litC4 : Ideal.ofBits .f32 0x3983126F#32 = ((c4 : ℝ) : EReal) := by
  unfold c4
  simp [Ideal.ofBits, Ideal.ieee, -EReal.coe_mul]; norm_num

section

variable {v0 : Vec Ideal S32x10x16 .f32} {s : Fin 32 → Fin 10 → Fin 16 → ℝ} (hs : ∀ w r x, v0 (ix3 w r x) = ((s w r x : ℝ) : EReal))
include hs

/-- A batch entry's mean score of an expert, -/
theorem pay6_eq (b : Fin 4) (e : Fin 8) :
    k2_pay6 v0 (ix2 b e) = ((∑ k : Fin 8, ∑ x : Fin 16, s (wt b k) ⟨e.val, by omega⟩ x) / 8192 : ℝ) := by
  have h : k2_pay6 v0 (ix2 b e) = (∑ w : Fin 32, k2_pay5 (F := Ideal) (ix2 b w) * ∑ x : Fin 16, v0 (ix3 w ⟨e.val, by omega⟩ x)) * Ideal.ofBits .f32 0x39000000#32 := by
    pointwise [k2_pay6, k2_pay3]
    simp only [ix2_eq_valueIdx, ix3_eq_valueIdx]
  rw [h, lit8192]
  simp only [pay5_eq, hs, ← coe_sum, ← EReal.coe_mul]
  rw [sum_tiles b fun w => ∑ x : Fin 16, s w ⟨e.val, by omega⟩ x, mul_one_div]

/-- its count, over the slots of an expert -/
theorem pay7_eq (b : Fin 4) (e : Fin 8) :
    k2_pay7 v0 (ix2 b e) = ((∑ k : Fin 8, s (wt b k) 8 ⟨e.val, by omega⟩) / 2048 : ℝ) := by
  have h : k2_pay7 v0 (ix2 b e) = (∑ w : Fin 32, k2_pay5 (F := Ideal) (ix2 b w) * v0 (ix3 w 8 ⟨e.val, by omega⟩)) * Ideal.ofBits .f32 0x3A000000#32 := by
    pointwise [k2_pay7, k2_pay3]
    simp only [ix2_eq_valueIdx, ix3_eq_valueIdx]
  rw [h, lit2048]
  simp only [pay5_eq, hs, ← coe_sum, ← EReal.coe_mul]
  rw [sum_tiles b fun w => s w 8 ⟨e.val, by omega⟩, mul_one_div]

/-- A device's mean scores, -/
theorem pay9_eq (b : Fin 4) (d : Fin 4) :
    k2_pay9 (k2_pay6 v0) (ix2 b d) = ((∑ i : Fin 2, (∑ k : Fin 8, ∑ x : Fin 16, s (wt b k) ⟨(ex d i).val, by omega⟩ x) / 8192 : ℝ) : EReal) := by
  have h : k2_pay9 (k2_pay6 v0) (ix2 b d) = ∑ e : Fin 8, k2_pay6 v0 (ix2 b e) * k2_pay8 (F := Ideal) (ix2 e d) := by
    pointwise [k2_pay9]
    simp only [ix2_eq_valueIdx, ix3_eq_valueIdx]
  rw [h]
  simp only [pay8_eq, pay6_eq hs, ← coe_sum, ← EReal.coe_mul]
  rw [sum_experts d fun e => (∑ k : Fin 8, ∑ x : Fin 16, s (wt b k) ⟨e.val, by omega⟩ x) / 8192]

theorem divOut_eq (i : S1x1.Idx) : divOut v0 i = ((∑ b : Fin 4, ∑ d : Fin 4, ((∑ i : Fin 2, (∑ k : Fin 8, s (wt b k) 8 ⟨(ex d i).val, by omega⟩) / 2048) / 2)
    * ∑ i : Fin 2, (∑ k : Fin 8, ∑ x : Fin 16, s (wt b k) ⟨(ex d i).val, by omega⟩ x) / 8192) * c4 : ℝ) := by
  have h : divOut v0 i = (∑ b : Fin 4, ∑ d : Fin 4, ((∑ e : Fin 8, k2_pay7 v0 (ix2 b e) * k2_pay8 (F := Ideal) (ix2 e d)) * Ideal.ofBits .f32 0x3F000000#32)
      * k2_pay9 (k2_pay6 v0) (ix2 b d)) * Ideal.ofBits .f32 0x3983126F#32 := by
    pointwise [divOut, k2_pay1, k2_pay10]
    simp only [ix2_eq_valueIdx, ix3_eq_valueIdx]
  rw [h, litHalf, litC4]
  simp only [pay8_eq, pay7_eq hs, pay9_eq hs, ← coe_sum, ← EReal.coe_mul]
  simp only [sum_experts _ fun e => (∑ k : Fin 8, s (wt _ k) 8 ⟨e.val, by omega⟩) / 2048, mul_one_div]

theorem comOut_eq (i : S1x1.Idx) : comOut v0 i = ((∑ b : Fin 4, ∑ d : Fin 4, ((∑ k : Fin 8, s (wt b k) 9 ⟨d.val, by omega⟩) / 2048)
    * ∑ i : Fin 2, (∑ k : Fin 8, ∑ x : Fin 16, s (wt b k) ⟨(ex d i).val, by omega⟩ x) / 8192) * c4 : ℝ) := by
  have h : comOut v0 i = (∑ b : Fin 4, ∑ d : Fin 4, ((∑ w : Fin 32, k2_pay5 (F := Ideal) (ix2 b w) * v0 (ix3 w 9 ⟨d.val, by omega⟩)) * Ideal.ofBits .f32 0x3A000000#32)
      * k2_pay9 (k2_pay6 v0) (ix2 b d)) * Ideal.ofBits .f32 0x3983126F#32 := by
    pointwise [comOut, k2_pay2, k2_pay11, k2_pay4, k2_pay3]
    simp only [ix2_eq_valueIdx, ix3_eq_valueIdx]
  rw [h, lit2048, litC4]
  simp only [pay5_eq, hs, pay9_eq hs, ← coe_sum, ← EReal.coe_mul]
  simp only [sum_tiles _ fun w => s w 9 _, mul_one_div]

end

end Cert.KernelIdeal.Gate

end
-- ==== Proof.Losses.lean ====
/- The kernel's two losses, from real inputs. -/
module

public import proofs.«01_k».proof.Proof.Results
public import proofs.«01_k».proof.Proof.Epilogue

@[expose] public section

noncomputable section

namespace Cert.KernelIdeal.Gate

open Cert.KernelIdeal Cert.KernelIdeal.Gen Cert.Gate
open Idealize.ShloMosaic hiding ix0 ix1 ix2 ix3 ix4 ix5
open Idealize.ShloMosaic.ValueIdx

/-- The statistics of the tiles as reals. -/
def st (L : Fin 32768 → Fin 8 → ℝ) (w : Fin 32) (r : Fin 10) (x : Fin 16) : ℝ :=
  if h : r.val < 8 then ∑ t : Fin 64, scr (L (tw w (tl t x))) ⟨r.val, h⟩
  else if r.val = 8 then ∑ t : Fin 64, ∑ y : Fin 16, hit (L (tw w (tl t y))) x.val else ∑ t : Fin 64, ∑ y : Fin 16, dhit (L (tw w (tl t y))) x.val

theorem st_scs (L : Fin 32768 → Fin 8 → ℝ) (b : Fin 4) (e : Fin 8) : ∑ k : Fin 8, ∑ x : Fin 16, st L (wt b k) ⟨e.val, by omega⟩ x = scs L b e := by
  unfold scs
  rw [sum_tokens b fun n => scr (L n) e]
  refine Finset.sum_congr rfl fun k _ => Finset.sum_congr rfl fun x _ => ?_
  unfold st
  rw [dif_pos e.isLt]
theorem st_cnt (L : Fin 32768 → Fin 8 → ℝ) (b : Fin 4) (x : Fin 16) : ∑ k : Fin 8, st L (wt b k) 8 x = cnt L b x.val := by
  unfold cnt
  rw [sum_tokens b fun n => hit (L n) x.val]
  refine Finset.sum_congr rfl fun k _ => ?_
  refine Eq.trans ?_ Finset.sum_comm
  rfl
theorem st_dcn (L : Fin 32768 → Fin 8 → ℝ) (b : Fin 4) (x : Fin 16) : ∑ k : Fin 8, st L (wt b k) 9 x = dcn L b x.val := by
  unfold dcn
  rw [sum_tokens b fun n => dhit (L n) x.val]
  refine Finset.sum_congr rfl fun k _ => ?_
  refine Eq.trans ?_ Finset.sum_comm
  rfl

section

variable (m : (ℓ : Loc nD τ sig) → Buf (Elt Ideal) ℓ) (d : Dev nD) (X : S4x8192x12.Idx → ℝ) (W : S8x12.Idx → ℝ)
variable (hX : ∀ i, m (d, dr main_arg0) i = ((X i : ℝ) : EReal)) (hW : ∀ i, m (d, dr main_arg1) i = ((W i : ℝ) : EReal))
include hX hW

theorem OS_eq (w : Fin 32) (r : Fin 10) (x : Fin 16) : OS (Bl m d) (ix3 w r x) = ((st (lgt X W) w r x : ℝ) : EReal) := by
  show stat (lgRow (Bl m d) w) (ix2 r x) = _
  have hR := row_eq m d X W hX hW w
  unfold stat st
  by_cases h : r.val < 8
  · rw [if_pos (show ((ix2 r x : S10x16.Idx) 0).val < 8 from h), dif_pos h]
    exact accs_eq hR x ⟨r.val, h⟩
  · rw [if_neg (show ¬ ((ix2 r x : S10x16.Idx) 0).val < 8 from h), dif_neg h]
    by_cases h8 : r.val = 8
    · rw [if_pos (show ((ix2 r x : S10x16.Idx) 0).val = 8 from h8), if_pos h8]
      exact cnts_eq hR x
    · rw [if_neg (show ¬ ((ix2 r x : S10x16.Idx) 0).val = 8 from h8), if_neg h8]
      exact devs_eq hR x

/-- The loss of the device balance -/
theorem dev_eq (i : S_.Idx) : W5 m d (dr main_v6) i = ((devBal (lgt X W) : ℝ) : EReal) := by
  rw [W5_v6]
  refine (shapeCast_apply _ _ i (ix2 0 0) (by rw [Shape.rowMajor_val_two]; exact (Nat.lt_one_iff.mp (S_.rowMajor i).isLt).symm)).trans ((divOut_eq (OS_eq m d X W hX hW) _).trans ?_)
  unfold devBal pg
  simp only [st_scs, st_cnt _ _ ⟨_, _⟩]
/-- and of the communication balance. -/
theorem com_eq (i : S_.Idx) : W5 m d (dr main_v7) i = ((comBal (lgt X W) : ℝ) : EReal) := by
  rw [W5_v7]
  refine (shapeCast_apply _ _ i (ix2 0 0) (by rw [Shape.rowMajor_val_two]; exact (Nat.lt_one_iff.mp (S_.rowMajor i).isLt).symm)).trans ((comOut_eq (OS_eq m d X W hX hW) _).trans ?_)
  unfold comBal pg
  simp only [st_scs, st_dcn]

end

end Cert.KernelIdeal.Gate

end
-- ==== Proof.RefScores.lean ====
/- The reference's scores: softmax of the logits. -/
module

public import proofs.«01_k».proof.Proof.Gen.ReferenceIdeal
public import proofs.«01_k».proof.Proof.Spec
public import Idealize.ShloMosaic.Lib.Pointwise
public import Idealize.ShloMosaic.Lib.IdealHost
public import Idealize.ShloMosaic.Lib.StackMember

@[expose] public section

noncomputable section

namespace Cert.ReferenceIdeal.Gate

open Cert.ReferenceIdeal Cert.Gate
open Cert.ReferenceIdeal.Facts₀ Cert.ReferenceIdeal.Facts
open Idealize.ShloMosaic hiding ix0 ix1 ix2 ix3 ix4 ix5
open Idealize.ShloMosaic.ValueIdx

theorem litBot : Ideal.ofBits .f32 0xFF800000#32 = ⊥ := by
  simp [Ideal.ofBits, Ideal.ieee]

section

variable (A : FVec Ideal S4x8192x12 .f32) (B : FVec Ideal S8x12 .f32)

/-- The logits, -/
def lgR : FVec Ideal S32768x8 .f32 :=
  Host.dotGeneral dot_S32768x12_S12x8_S32768x8_1_0_0_1_n_n none (shapeCast S32768x12 A shapeCasts_S4x8192x12_S32768x12) (transpose S12x8 [1, 0] B transposes_S8x12_S12x8_1_0)
/-- their greatest, per token, -/
def mxR : FVec Ideal S32768 .f32 :=
  maximumf (broadcastInDim S32768 ![] bcast_S_S32768 (constant S_ .f32 0xFF800000#32)) (Host.reduce FloatOps.maximumf (lgR A B) (constant S_ .f32 0xFF800000#32) reducesTo_S32768x8_S32768_d1 h_S_)
/-- exponentials -/
def exR : FVec Ideal S32768x8 .f32 :=
  Host.exp (subf (lgR A B) (broadcastInDim S32768x8 ![0, 1] bcast_S32768x1_S32768x8_0_1 (broadcastInDim S32768x1 ![0] bcast_S32768_S32768x1_0 (mxR A B))))
/-- and softmax. -/
def scR : FVec Ideal S32768x8 .f32 :=
  Host.divf (exR A B) (broadcastInDim S32768x8 ![0, 1] bcast_S32768x1_S32768x8_0_1 (broadcastInDim S32768x1 ![0] bcast_S32768_S32768x1_0
    (Host.reduceAdd (exR A B) (constant S_ .f32 0x00000000#32) reducesTo_S32768x8_S32768_d1 h_S_)))

end

section

variable {A : FVec Ideal S4x8192x12 .f32} {B : FVec Ideal S8x12 .f32} {X : S4x8192x12.Idx → ℝ} {W : S8x12.Idx → ℝ}
variable (hX : ∀ i, A i = ((X i : ℝ) : EReal)) (hW : ∀ i, B i = ((W i : ℝ) : EReal))
include hX hW

theorem lgR_eq (n : Fin 32768) (e : Fin 8) : lgR A B (ix2 n e) = ((lgt X W n e : ℝ) : EReal) := by
  unfold lgR
  have h : Host.dotGeneral dot_S32768x12_S12x8_S32768x8_1_0_0_1_n_n none (shapeCast S32768x12 A shapeCasts_S4x8192x12_S32768x12) (transpose S12x8 [1, 0] B transposes_S8x12_S12x8_1_0) (ix2 n e)
      = ∑ k : Fin 12, (shapeCast S32768x12 A shapeCasts_S4x8192x12_S32768x12) (ix2 n k) * B (ix2 e k) := by
    generalize shapeCast S32768x12 A shapeCasts_S4x8192x12_S32768x12 = v
    pointwise
    simp only [ix2_eq_valueIdx]
  rw [h]
  unfold lgt
  rw [coe_sum]
  refine Finset.sum_congr rfl fun k _ => ?_
  rw [hW, EReal.coe_mul, mul_comm]
  refine congrArg _ ((shapeCast_apply _ _ _ (ix3 ⟨n.val / 8192, by omega⟩ ⟨n.val % 8192, by omega⟩ k) ?_).trans (hX _))
  rw [Shape.rowMajor_val_three, Shape.rowMajor_val_two]
  show (n.val / 8192 * 8192 + n.val % 8192) * 12 + k.val = n.val * 12 + k.val
  omega

/-- A token's greatest logit is a real. -/
theorem mxR_eq (n : Fin 32768) : ∃ M : ℝ, mxR A B (ix1 n) = (M : EReal) := by
  unfold mxR
  have hl := lgR_eq hX hW
  generalize lgR A B = v at *
  have h : ∀ v : FVec Ideal S32768x8 .f32, maximumf (broadcastInDim S32768 ![] bcast_S_S32768 (constant S_ .f32 0xFF800000#32)) (Host.reduce FloatOps.maximumf v (constant S_ .f32 0xFF800000#32) reducesTo_S32768x8_S32768_d1 h_S_) (ix1 n)
      = max (Ideal.ofBits .f32 0xFF800000#32) (Finset.fold max (Ideal.ofBits .f32 0xFF800000#32) (fun x : Fin 8 => v (ix2 n x)) Finset.univ) := by
    intro v
    pointwise
    simp only [ix2_eq_valueIdx]
  rw [h v]
  simp only [hl, litBot]
  refine ⟨EReal.toReal _, (EReal.coe_toReal (ne_of_lt ?_) (ne_of_gt ?_)).symm⟩
  · exact max_lt bot_lt_top ((Finset.fold_max_lt _).mpr ⟨bot_lt_top, fun x _ => EReal.coe_lt_top _⟩)
  · exact lt_max_of_lt_right ((Finset.lt_fold_max _).mpr (.inr ⟨0, Finset.mem_univ _, EReal.bot_lt_coe _⟩))

theorem exR_eq (n : Fin 32768) (M : ℝ) (hM : mxR A B (ix1 n) = (M : EReal)) (e : Fin 8) : exR A B (ix2 n e) = ((Real.exp (lgt X W n e - M) : ℝ) : EReal) := by
  unfold exR
  have hl := lgR_eq hX hW
  generalize lgR A B = v at *
  generalize mxR A B = w at *
  pointwise
  rw [hl, ix1_eq_valueIdx]
  show Ideal.exp (_ - w (ix1 n)) = _
  rw [hM, ← EReal.coe_sub, Ideal.exp_coe]

theorem scR_eq (n : Fin 32768) (e : Fin 8) : scR A B (ix2 n e) = ((scr (lgt X W n) e : ℝ) : EReal) := by
  obtain ⟨M, hM⟩ := mxR_eq hX hW n
  have he := exR_eq hX hW n M hM
  unfold scR
  generalize exR A B = v at *
  pointwise
  simp only [ix2_eq_valueIdx]
  show Ideal.div (v (ix2 n e)) (∑ x, v (ix2 n x)) = _
  have hp : (∑ k, Real.exp (lgt X W n k - M)) ≠ 0 := (sum_exp_pos fun k => lgt X W n k - M).ne'
  simp only [he, ← coe_sum]
  rw [Ideal.div_coe hp, ← EReal.coe_mul]
  refine congrArg _ ?_
  unfold scr
  simp only [Real.exp_sub, ← Finset.sum_div]
  have h1 := (sum_exp_pos (lgt X W n)).ne'
  have h2 := (Real.exp_pos M).ne'
  field_simp

end

end Cert.ReferenceIdeal.Gate

end
-- ==== Proof.RefTop.lean ====
/- The reference's selection: the two greatest scores and their experts. -/
module

public import proofs.«01_k».proof.Proof.RefScores

@[expose] public section

noncomputable section

namespace Cert.ReferenceIdeal.Gate

open Cert.ReferenceIdeal Cert.Gate
open Cert.ReferenceIdeal.Facts₀ Cert.ReferenceIdeal.Facts
open Idealize.ShloMosaic hiding ix0 ix1 ix2 ix3 ix4 ix5
open Idealize.ShloMosaic.ValueIdx

/-- Softmax keeps the order of the logits. -/
theorem scr_mono (l : Fin 8 → ℝ) : StrictMono fun x : ℝ => ((Real.exp x / ∑ k, Real.exp (l k) : ℝ) : EReal) := fun _ _ h =>
  EReal.coe_lt_coe_iff.mpr (div_lt_div_of_pos_right (Real.exp_lt_exp.mpr h) (sum_exp_pos l))

/-- The expert a token's slot selects. -/
def sel (l : Fin 8 → ℝ) (k : Fin 2) : Fin 8 := if k = 0 then top l else top2 l

/-- The sort's position for a slot. -/
theorem sorted_eq (l : Fin 8 → ℝ) (key : Fin 8 → EReal) (hk : ∀ e, key e = ((scr l e : ℝ) : EReal)) (k : Fin 2) :
    sortedFrom (fun a b => Ideal.cmp .ogt (key a) (key b) == 1#1) (⟨k.val, by omega⟩ : Fin 8) = sel l k := by
  obtain rfl : key = fun e => ((scr l e : ℝ) : EReal) := funext hk
  have ht := (isTop_top l).map (scr_mono l)
  have hs := (isSnd_top2 l).map (scr_mono l)
  have h := sortedFrom_top ht hs
  unfold sel
  fin_cases k
  · exact h.1
  · exact h.2

section

variable {v : FVec Ideal S32768x8 .f32} {L : Fin 32768 → Fin 8 → ℝ} (hv : ∀ n e, v (ix2 n e) = ((scr (L n) e : ℝ) : EReal))
include hv

theorem along_ix2 (n : Fin 32768) (k e : Fin 8) : (ix2 n k : S32768x8.Idx).along 1 e = ix2 n e := by
  funext a
  match a with
  | ⟨0, _⟩ => rfl
  | ⟨1, _⟩ => rfl

theorem src_eq (n : Fin 32768) (k : Fin 2) : (fun a => ⟨0 + ((ix2 n k : S32768x2.Idx) a).val, by
    match a with
    | ⟨0, _⟩ => show 0 + n.val < 32768; omega
    | ⟨1, _⟩ => show 0 + k.val < 8; omega⟩ : S32768x8.Idx) = ix2 n ⟨k.val, by omega⟩ := by
  funext a
  match a with
  | ⟨0, _⟩ => exact Fin.ext (Nat.zero_add _)
  | ⟨1, _⟩ => exact Fin.ext (Nat.zero_add _)

theorem topK_idx (n : Fin 32768) (k : Fin 2) :
    (Host.topK S32768x2 1 (FloatOps.cmpfTotal .gt) v sliceFits_S32768x8_S32768x2).2 (ix2 n k) = BitVec.ofNat 32 (sel (L n) k).val := by
  have h : (Host.topK S32768x2 1 (FloatOps.cmpfTotal .gt) v sliceFits_S32768x8_S32768x2).2 (ix2 n k)
      = (Host.sort2 S32768x8 1 (fun l r => Ideal.cmp .ogt l.1 r.1) v (iotaInDim S32768x8 32 1)).2 (ix2 n ⟨k.val, by omega⟩) :=
    congrArg (Host.sort2 S32768x8 1 (fun l r => Ideal.cmp .ogt l.1 r.1) v (iotaInDim S32768x8 32 1)).2 (src_eq hv n k)
  rw [h]
  exact (congrArg (fun q : Fin 8 => (iotaInDim S32768x8 32 1) ((ix2 n (⟨k.val, by omega⟩ : Fin 8) : S32768x8.Idx).along 1 q))
    (sorted_eq (L n) (fun a => v ((ix2 n (⟨k.val, by omega⟩ : Fin 8) : S32768x8.Idx).along 1 a)) (fun e => by rw [along_ix2 hv]; exact hv n e) k)).trans
    ((congrArg (iotaInDim S32768x8 32 1) (along_ix2 hv _ _ _)).trans rfl)

theorem topK_val (n : Fin 32768) (k : Fin 2) :
    (Host.topK S32768x2 1 (FloatOps.cmpfTotal .gt) v sliceFits_S32768x8_S32768x2).1 (ix2 n k) = ((scr (L n) (sel (L n) k) : ℝ) : EReal) := by
  have h : (Host.topK S32768x2 1 (FloatOps.cmpfTotal .gt) v sliceFits_S32768x8_S32768x2).1 (ix2 n k)
      = (Host.sort2 S32768x8 1 (fun l r => Ideal.cmp .ogt l.1 r.1) v (iotaInDim S32768x8 32 1)).1 (ix2 n ⟨k.val, by omega⟩) :=
    congrArg (Host.sort2 S32768x8 1 (fun l r => Ideal.cmp .ogt l.1 r.1) v (iotaInDim S32768x8 32 1)).1 (src_eq hv n k)
  rw [h]
  exact (congrArg (fun q : Fin 8 => v ((ix2 n (⟨k.val, by omega⟩ : Fin 8) : S32768x8.Idx).along 1 q))
    (sorted_eq (L n) (fun a => v ((ix2 n (⟨k.val, by omega⟩ : Fin 8) : S32768x8.Idx).along 1 a)) (fun e => by rw [along_ix2 hv]; exact hv n e) k)).trans
    ((congrArg v (along_ix2 hv _ _ _)).trans (hv _ _))

end

end Cert.ReferenceIdeal.Gate

end
-- ==== Proof.RefCounts.lean ====
/- The reference's counts: how many slots select an expert, how many tokens a device. -/
module

public import proofs.«01_k».proof.Proof.RefTop

@[expose] public section

noncomputable section

namespace Cert.ReferenceIdeal.Gate

open Cert.ReferenceIdeal Cert.Gate
open Cert.ReferenceIdeal.Facts₀ Cert.ReferenceIdeal.Facts
open Idealize.ShloMosaic hiding ix0 ix1 ix2 ix3 ix4 ix5
open Idealize.ShloMosaic.ValueIdx

/-- The slots, per batch entry, that select each expert. -/
def ceR (ix : IVec S32768x2 32) : IVec S4x8 32 :=
  Host.reduce IntOp.addi (extui 32 (cmpi .eq (broadcastInDim S4x16384x8 ![0, 1, 2] bcast_S4x16384x1_S4x16384x8_0_1_2 (broadcastInDim S4x16384x1 ![0, 1] bcast_S4x16384_S4x16384x1_0_1 (shapeCast S4x16384 ix shapeCasts_S32768x2_S4x16384)))
    (broadcastInDim S4x16384x8 ![0, 1, 2] bcast_S1x1x8_S4x16384x8_0_1_2 (broadcastInDim S1x1x8 ![2] bcast_S8_S1x1x8_2 (iotaInDim S8 32 0)))) natLt_1_32) (constantI S_ 32 0#32) reducesTo_S4x16384x8_S4x8_d1 h_S_

/-- The selected experts' devices. -/
def dvR (ix : IVec S32768x2 32) : IVec S4x8192x2 32 :=
  let r : IVec S4x8192x2 32 := shapeCast S4x8192x2 ix shapeCasts_S32768x2_S4x8192x2
  select (andi (cmpi .ne (signi r) (broadcastInDim S4x8192x2 ![] bcast_S_S4x8192x2 (signi (id (constantI S_ 32 2#32)))))
      (cmpi .ne (Host.remsi r (broadcastInDim S4x8192x2 ![] bcast_S_S4x8192x2 (id (constantI S_ 32 2#32)))) (broadcastInDim S4x8192x2 ![] bcast_S_S4x8192x2 (constantI S_ 32 0#32))))
    (subi (Host.divsi r (broadcastInDim S4x8192x2 ![] bcast_S_S4x8192x2 (id (constantI S_ 32 2#32)))) (broadcastInDim S4x8192x2 ![] bcast_S_S4x8192x2 (constantI S_ 32 1#32)))
    (Host.divsi r (broadcastInDim S4x8192x2 ![] bcast_S_S4x8192x2 (id (constantI S_ 32 2#32))))

/-- The tokens, per batch entry, that select an expert of device `d`. -/
def dcR (ix : IVec S32768x2 32) (d : BitVec 32) : IVec S4 32 :=
  Host.reduce IntOp.addi (extui 32 (Host.reduce IntOp.ori (cmpi .eq (dvR ix) (broadcastInDim S4x8192x2 ![] bcast_S_S4x8192x2 (constantI S_ 32 d))) (constantI S_ 1 0#1) reducesTo_S4x8192x2_S4x8192_d2 h_S_) natLt_1_32)
    (constantI S_ 32 0#32) reducesTo_S4x8192_S4_d1 h_S_

/-- A sum of bits, as words. -/
theorem fold_bits {n : ℕ} (hn : n < 2 ^ 31) (f : Fin n → BitVec 32) (p : Fin n → Prop) [DecidablePred p] (h : ∀ j, f j = if p j then 1#32 else 0#32) :
    (((Finset.fold IntOp.addi (0#32) f Finset.univ).toInt : ℝ)) = ∑ j, if p j then (1 : ℝ) else 0 := by
  have h1 : ∀ S : Finset (Fin n), Finset.fold IntOp.addi (0#32) f S = BitVec.ofNat 32 (∑ j ∈ S, if p j then 1 else 0) := fun S => by
    induction S using Finset.induction_on with
    | empty => rfl
    | insert a S ha ih =>
      rw [Finset.fold_insert ha, ih, Finset.sum_insert ha, h, BitVec.ofNat_add]
      unfold IntOp.addi
      split <;> rfl
  have h2 : (∑ j : Fin n, if p j then 1 else 0) ≤ n := by
    refine (Finset.sum_le_card_nsmul Finset.univ _ 1 fun j _ => ?_).trans (by simp)
    split <;> simp
  have h3 : ∀ k : ℕ, k < 2 ^ 31 → (BitVec.ofNat 32 k).toInt = k := fun k hk => by
    rw [BitVec.toInt_eq_toNat_of_lt (by rw [BitVec.toNat_ofNat]; omega), BitVec.toNat_ofNat]
    omega
  rw [h1, h3 _ (by omega)]
  push_cast
  rfl

theorem cmp_eq (a b : BitVec 32) : IntOp.cmpi .eq a b = if a = b then 1#1 else 0#1 := by
  unfold IntOp.cmpi
  by_cases h : a = b
  · simp [h]
  · show BitVec.ofBool (a == b) = _
    rw [beq_false_of_ne h, if_neg h]
    rfl
theorem bit_eq (a b : BitVec 32) : BitVec.setWidth 32 (IntOp.cmpi .eq a b) = if a = b then 1#32 else 0#32 := by
  rw [cmp_eq]
  split <;> rfl

/-- The device of an expert. -/
theorem dev_word : ∀ i : Fin 8, ∀ z : BitVec 32, z = BitVec.ofNat 32 i.val →
    Scalar.select
      (IntOp.andi (IntOp.cmpi .ne (if z = 0 then 0 else if z.msb = true then -1 else 1) (1#32))
        (IntOp.cmpi .ne (IntOp.remsi ArithUnit.host z 2#32) 0#32))
      (IntOp.subi (IntOp.divsi ArithUnit.host z 2#32) 1#32)
      (IntOp.divsi ArithUnit.host z 2#32) = BitVec.ofNat 32 (i.val / 2) := by
  intro i z hz
  subst hz
  revert i
  decide +kernel

section

variable {ix : IVec S32768x2 32} {L : Fin 32768 → Fin 8 → ℝ} (hix : ∀ n k, ix (ix2 n k) = BitVec.ofNat 32 (sel (L n) k).val)
include hix

theorem dvR_eq (b : Fin 4) (s : Fin 8192) (k : Fin 2) : dvR ix (ix3 b s k) = BitVec.ofNat 32 ((sel (L (tk b s)) k).val / 2) := by
  have hr : shapeCast S4x8192x2 ix shapeCasts_S32768x2_S4x8192x2 (ix3 b s k) = BitVec.ofNat 32 (sel (L (tk b s)) k).val := by
    refine (shapeCast_apply _ _ _ (ix2 (tk b s) k) ?_).trans (hix _ _)
    rw [Shape.rowMajor_val_three, Shape.rowMajor_val_two]
    show (8192 * b.val + s.val) * 2 + k.val = (b.val * 8192 + s.val) * 2 + k.val
    omega
  unfold dvR
  generalize shapeCast S4x8192x2 ix shapeCasts_S32768x2_S4x8192x2 = v at *
  pointwise
  exact dev_word (sel (L (tk b s)) k) (v (ix3 b s k)) hr

theorem ofNat_inj {a b : ℕ} (ha : a < 8) (hb : b < 8) : BitVec.ofNat 32 a = BitVec.ofNat 32 b ↔ a = b := by
  constructor
  · intro h
    have := congrArg BitVec.toNat h
    simp only [BitVec.toNat_ofNat] at this
    omega
  · exact fun h => h ▸ rfl

theorem ceR_eq (b : Fin 4) (e : Fin 8) : ((((ceR ix (ix2 b e)).toInt : ℝ)) : ℝ) = cnt L b e.val := by
  have hr : ∀ j : Fin 16384, shapeCast S4x16384 ix shapeCasts_S32768x2_S4x16384 (ix2 b j) = BitVec.ofNat 32 (sel (L (tk b ⟨j.val / 2, by omega⟩)) ⟨j.val % 2, by omega⟩).val := fun j => by
    refine (shapeCast_apply _ _ _ (ix2 (tk b ⟨j.val / 2, by omega⟩) ⟨j.val % 2, by omega⟩) ?_).trans (hix _ _)
    rw [Shape.rowMajor_val_two, Shape.rowMajor_val_two]
    show (8192 * b.val + j.val / 2) * 2 + j.val % 2 = b.val * 16384 + j.val
    omega
  have h : ceR ix (ix2 b e) = Finset.fold IntOp.addi (0#32)
      (fun j : Fin 16384 => BitVec.setWidth 32 (IntOp.cmpi CmpIPredicate.eq (shapeCast S4x16384 ix shapeCasts_S32768x2_S4x16384 (ix2 b j)) (BitVec.ofNat 32 e.val))) Finset.univ := by
    unfold ceR
    generalize shapeCast S4x16384 ix shapeCasts_S32768x2_S4x16384 = v
    pointwise
    simp only [ix2_eq_valueIdx]
  rw [h, fold_bits (by norm_num) _ (fun j : Fin 16384 => (e.val = (sel (L (tk b ⟨j.val / 2, by omega⟩)) ⟨j.val % 2, by omega⟩).val)) fun j => ?_]
  · unfold cnt
    refine (Fintype.sum_equiv (finProdFinEquiv (m := 8192) (n := 2)) (fun p => if e.val = (sel (L (tk b p.1)) p.2).val then (1 : ℝ) else 0) _ fun p => ?_).symm.trans ?_
    · have h1 : (finProdFinEquiv (m := 8192) (n := 2) p).val = p.2.val + 2 * p.1.val := rfl
      have e1 : (⟨(finProdFinEquiv (m := 8192) (n := 2) p).val / 2, by omega⟩ : Fin 8192) = p.1 := Fin.ext (by show _ / 2 = _; omega)
      have e2 : (⟨(finProdFinEquiv (m := 8192) (n := 2) p).val % 2, by omega⟩ : Fin 2) = p.2 := Fin.ext (by show _ % 2 = _; omega)
      rw [e1, e2]
    · rw [Fintype.sum_prod_type]
      refine Finset.sum_congr rfl fun s _ => ?_
      rw [Fin.sum_univ_two]
      rfl
  · rw [bit_eq, hr]
    refine if_congr ?_ rfl rfl
    rw [ofNat_inj hix (Fin.isLt _) e.isLt, eq_comm]

theorem dcR_eq (b : Fin 4) (d : Fin 4) : (((dcR ix (BitVec.ofNat 32 d.val) (ix1 b)).toInt : ℝ)) = dcn L b d.val := by
  have h : dcR ix (BitVec.ofNat 32 d.val) (ix1 b) = Finset.fold IntOp.addi (0#32)
      (fun s : Fin 8192 => BitVec.setWidth 32 (Finset.fold IntOp.ori (0#1) (fun k : Fin 2 => IntOp.cmpi CmpIPredicate.eq (dvR ix (ix3 b s k)) (BitVec.ofNat 32 d.val)) Finset.univ)) Finset.univ := by
    unfold dcR
    generalize dvR ix = v
    pointwise
    simp only [ix3_eq_valueIdx]
  have hf : ∀ f : Fin 2 → BitVec 1, Finset.fold IntOp.ori (0#1) f Finset.univ = f 0 ||| f 1 := fun f => by
    have h01 : (Finset.univ : Finset (Fin 2)) = {0, 1} := rfl
    rw [h01, Finset.fold_insert (by decide), Finset.fold_singleton]
    generalize f 0 = x
    generalize f 1 = y
    revert x y
    decide
  rw [h, fold_bits (by norm_num) _ (fun s : Fin 8192 => d.val = (top (L (tk b s))).val / 2 ∨ d.val = (top2 (L (tk b s))).val / 2) fun s => ?_]
  · unfold dcn
    refine Finset.sum_congr rfl fun s _ => ?_
    unfold dhit
    by_cases h1 : d.val = (top (L (tk b s))).val / 2 <;> by_cases h2 : d.val = (top2 (L (tk b s))).val / 2
    · rw [if_pos (Or.inl h1), if_pos h1, if_neg (fun h => h.1 (h2.symm.trans h1)), add_zero]
    · rw [if_pos (Or.inl h1), if_pos h1, if_neg (fun h => h2 h.2), add_zero]
    · rw [if_pos (Or.inr h2), if_neg h1, if_pos ⟨fun e => h1 (h2.trans e), h2⟩, zero_add]
    · rw [if_neg (fun h => h.elim h1 h2), if_neg h1, if_neg (fun h => h2 h.2), add_zero]
  · rw [hf, dvR_eq hix, dvR_eq hix]
    have e0 : (BitVec.ofNat 32 ((sel (L (tk b s)) 0).val / 2) = BitVec.ofNat 32 d.val) ↔ d.val = (top (L (tk b s))).val / 2 :=
      (ofNat_inj hix (by omega) (by omega)).trans eq_comm
    have e1 : (BitVec.ofNat 32 ((sel (L (tk b s)) 1).val / 2) = BitVec.ofNat 32 d.val) ↔ d.val = (top2 (L (tk b s))).val / 2 :=
      (ofNat_inj hix (by omega) (by omega)).trans eq_comm
    rw [cmp_eq, cmp_eq, if_congr e0 rfl rfl, if_congr e1 rfl rfl]
    by_cases h1 : d.val = (top (L (tk b s))).val / 2 <;> by_cases h2 : d.val = (top2 (L (tk b s))).val / 2
    · rw [if_pos h1, if_pos h2, if_pos (Or.inl h1)]; rfl
    · rw [if_pos h1, if_neg h2, if_pos (Or.inl h1)]; rfl
    · rw [if_neg h1, if_pos h2, if_pos (Or.inr h2)]; rfl
    · rw [if_neg h1, if_neg h2, if_neg (fun h => h.elim h1 h2)]; rfl

end

end Cert.ReferenceIdeal.Gate

end
-- ==== Proof.RefLosses.lean ====
/- The reference's two losses. -/
module

public import proofs.«01_k».proof.Proof.RefCounts

@[expose] public section

noncomputable section

namespace Cert.ReferenceIdeal.Gate

open Cert.ReferenceIdeal Cert.Gate
open Cert.ReferenceIdeal.Facts₀ Cert.ReferenceIdeal.Facts
open Idealize.ShloMosaic hiding ix0 ix1 ix2 ix3 ix4 ix5
open Idealize.ShloMosaic.ValueIdx

/-- The devices' mean scores. -/
def pgR (v : FVec Ideal S32768x8 .f32) : FVec Ideal S4x4 .f32 :=
  Host.reduceAdd (shapeCast S4x4x2 (Host.divf (Host.reduceAdd (shapeCast S4x8192x8 v shapeCasts_S32768x8_S4x8192x8) (constant S_ .f32 0x00000000#32) reducesTo_S4x8192x8_S4x8_d1 h_S_)
    (broadcastInDim S4x8 ![] bcast_S_S4x8 (constant S_ .f32 0x46000000#32))) shapeCasts_S4x8_S4x4x2) (constant S_ .f32 0x00000000#32) reducesTo_S4x4x2_S4x4_d2 h_S_
/-- The devices' mean shares of the slots. -/
def fiR (ce : IVec S4x8 32) : FVec Ideal S4x4 .f32 :=
  Host.divf (Host.reduceAdd (shapeCast S4x4x2 (Host.divf (sitofp .f32 ce) (broadcastInDim S4x8 ![] bcast_S_S4x8 (constant S_ .f32 0x45000000#32))) shapeCasts_S4x8_S4x4x2)
    (constant S_ .f32 0x00000000#32) reducesTo_S4x4x2_S4x4_d2 h_S_) (broadcastInDim S4x4 ![] bcast_S_S4x4 (constant S_ .f32 0x40000000#32))
/-- The devices' counts, side by side, -/
def ccR (ix : IVec S32768x2 32) : IVec S4x4 32 :=
  concatenate S4x4 1 [⟨S4x1, broadcastInDim S4x1 ![0] bcast_S4_S4x1_0 (dcR ix 0#32)⟩, ⟨S4x1, broadcastInDim S4x1 ![0] bcast_S4_S4x1_0 (dcR ix 1#32)⟩,
    ⟨S4x1, broadcastInDim S4x1 ![0] bcast_S4_S4x1_0 (dcR ix 2#32)⟩, ⟨S4x1, broadcastInDim S4x1 ![0] bcast_S4_S4x1_0 (dcR ix 3#32)⟩] concatenates_S4x1_S4x1_S4x1_S4x1_S4x4_d1
/-- and their shares. -/
def ciR (cc : IVec S4x4 32) : FVec Ideal S4x4 .f32 :=
  Host.divf (mulf (sitofp .f32 cc) (broadcastInDim S4x4 ![] bcast_S_S4x4 (constant S_ .f32 0x40800000#32))) (broadcastInDim S4x4 ![] bcast_S_S4x4 (constant S_ .f32 0x46000000#32))
/-- A loss: the batch entries' mean, weighed. -/
def lsR (x : FVec Ideal S4x4 .f32) : FVec Ideal S_ .f32 :=
  mulf (Host.divf (Host.reduceAdd (Host.reduceAdd x (constant S_ .f32 0x00000000#32) reducesTo_S4x4_S4_d1 h_S_) (constant S_ .f32 0x00000000#32) reducesTo_S4_S_d0 h_S_)
    (constant S_ .f32 0x40800000#32)) (constant S_ .f32 0x3A83126F#32)

theorem word8192 : Ideal.ofBits .f32 0x46000000#32 = ((8192 : ℝ) : EReal) := by
  simp [Ideal.ofBits, Ideal.ieee, -EReal.coe_mul]; norm_num
theorem word2048 : Ideal.ofBits .f32 0x45000000#32 = ((2048 : ℝ) : EReal) := by
  simp [Ideal.ofBits, Ideal.ieee, -EReal.coe_mul]; norm_num
theorem word2 : Ideal.ofBits .f32 0x40000000#32 = ((2 : ℝ) : EReal) := by
  simp [Ideal.ofBits, Ideal.ieee, -EReal.coe_mul]; norm_num
theorem word4 : Ideal.ofBits .f32 0x40800000#32 = ((4 : ℝ) : EReal) := by
  simp [Ideal.ofBits, Ideal.ieee, -EReal.coe_mul]; norm_num
theorem wordW : Ideal.ofBits .f32 0x3A83126F#32 = ((4 * c4 : ℝ) : EReal) := by
  unfold c4
  simp [Ideal.ofBits, Ideal.ieee, -EReal.coe_mul]; norm_num

theorem div_real (x y : ℝ) (h : y ≠ 0) : Ideal.div ((x : ℝ) : EReal) ((y : ℝ) : EReal) = ((x / y : ℝ) : EReal) := by
  rw [Ideal.div_coe h, ← EReal.coe_mul, mul_one_div]

theorem pgR_eq {v : FVec Ideal S32768x8 .f32} {L : Fin 32768 → Fin 8 → ℝ} (hv : ∀ n e, v (ix2 n e) = ((scr (L n) e : ℝ) : EReal)) (b d : Fin 4) :
    pgR v (ix2 b d) = ((pg L b d : ℝ) : EReal) := by
  have hc : ∀ (s : Fin 8192) (e : Fin 8), shapeCast S4x8192x8 v shapeCasts_S32768x8_S4x8192x8 (ix3 b s e) = ((scr (L (tk b s)) e : ℝ) : EReal) := fun s e => by
    refine (shapeCast_apply _ _ _ (ix2 (tk b s) e) ?_).trans (hv _ _)
    rw [Shape.rowMajor_val_three, Shape.rowMajor_val_two]
    show (8192 * b.val + s.val) * 8 + e.val = (b.val * 8192 + s.val) * 8 + e.val
    omega
  have h : pgR v (ix2 b d) = ∑ k : Fin 2, Ideal.div (∑ s : Fin 8192, shapeCast S4x8192x8 v shapeCasts_S32768x8_S4x8192x8 (ix3 b s (ex d k))) (Ideal.ofBits .f32 0x46000000#32) := by
    unfold pgR
    generalize shapeCast S4x8192x8 v shapeCasts_S32768x8_S4x8192x8 = w
    pointwise
    simp only [ix3_eq_valueIdx]
    exact Finset.sum_congr rfl fun k _ => congrArg (fun e => Ideal.div (∑ s : Fin 8192, w (ix3 b s e)) (Ideal.ofBits .f32 0x46000000#32)) (Fin.ext (by show d.val * 2 + k.val = 2 * d.val + k.val; omega))
  rw [h, word8192]
  simp only [hc, ← coe_sum, div_real _ _ (by norm_num : (8192 : ℝ) ≠ 0)]
  rfl

theorem fiR_eq {ce : IVec S4x8 32} {L : Fin 32768 → Fin 8 → ℝ} (hc : ∀ b e, (((ce (ix2 b e)).toInt : ℝ)) = cnt L b e.val) (b d : Fin 4) :
    fiR ce (ix2 b d) = (((∑ k : Fin 2, cnt L b (ex d k).val / 2048) / 2 : ℝ) : EReal) := by
  have h : fiR ce (ix2 b d) = Ideal.div (∑ k : Fin 2, Ideal.div ((((ce (ix2 b (ex d k))).toInt : ℝ)) : EReal) (Ideal.ofBits .f32 0x45000000#32)) (Ideal.ofBits .f32 0x40000000#32) := by
    unfold fiR
    pointwise
    simp only [ix2_eq_valueIdx]
    refine congrArg (fun z => Ideal.div z (Ideal.ofBits .f32 0x40000000#32)) ?_
    exact Finset.sum_congr rfl fun k _ => congrArg (fun e => Ideal.div ((((ce (ix2 b e)).toInt : ℝ)) : EReal) (Ideal.ofBits .f32 0x45000000#32)) (Fin.ext (by show d.val * 2 + k.val = 2 * d.val + k.val; omega))
  rw [h, word2048, word2]
  simp only [hc, div_real _ _ (by norm_num : (2048 : ℝ) ≠ 0), div_real _ _ (by norm_num : (2 : ℝ) ≠ 0), ← coe_sum]

theorem ccR_eq (ix : IVec S32768x2 32) (b d : Fin 4) : ccR ix (ix2 b d) = dcR ix (BitVec.ofNat 32 d.val) (ix1 b) := by
  unfold ccR
  generalize dcR ix = w
  pointwise
  simp only [ix1_eq_valueIdx]
  fin_cases d <;> rfl

theorem ciR_eq {cc : IVec S4x4 32} {L : Fin 32768 → Fin 8 → ℝ} (hc : ∀ b d, (((cc (ix2 b d)).toInt : ℝ)) = dcn L b d.val) (b d : Fin 4) :
    ciR cc (ix2 b d) = ((dcn L b d.val / 2048 : ℝ) : EReal) := by
  have h : ciR cc (ix2 b d) = Ideal.div ((((cc (ix2 b d)).toInt : ℝ) : EReal) * Ideal.ofBits .f32 0x40800000#32) (Ideal.ofBits .f32 0x46000000#32) := by
    unfold ciR
    pointwise
    rfl
  rw [h, word4, word8192, ← EReal.coe_mul, hc, div_real _ _ (by norm_num : (8192 : ℝ) ≠ 0)]
  refine congrArg _ ?_
  ring

theorem lsR_eq {x : FVec Ideal S4x4 .f32} {r : Fin 4 → Fin 4 → ℝ} (hx : ∀ b d, x (ix2 b d) = ((r b d : ℝ) : EReal)) (i : S_.Idx) :
    lsR x i = (((∑ b, ∑ d, r b d) * c4 : ℝ) : EReal) := by
  have h : lsR x i = Ideal.div (∑ b : Fin 4, ∑ d : Fin 4, x (ix2 b d)) (Ideal.ofBits .f32 0x40800000#32) * Ideal.ofBits .f32 0x3A83126F#32 := by
    unfold lsR
    pointwise
    simp only [ix2_eq_valueIdx]
  rw [h, word4, wordW]
  simp only [hx, ← coe_sum, div_real _ _ (by norm_num : (4 : ℝ) ≠ 0), ← EReal.coe_mul]
  refine congrArg _ ?_
  ring

/-- The reference's losses. -/
def devR (v : FVec Ideal S32768x8 .f32) (ix : IVec S32768x2 32) : FVec Ideal S_ .f32 := lsR (mulf (fiR (ceR ix)) (pgR v))
def comR (v : FVec Ideal S32768x8 .f32) (ix : IVec S32768x2 32) : FVec Ideal S_ .f32 := lsR (mulf (ciR (ccR ix)) (pgR v))

section

variable {v : FVec Ideal S32768x8 .f32} {ix : IVec S32768x2 32} {L : Fin 32768 → Fin 8 → ℝ} (hv : ∀ n e, v (ix2 n e) = ((scr (L n) e : ℝ) : EReal))
variable (hix : ∀ n k, ix (ix2 n k) = BitVec.ofNat 32 (sel (L n) k).val)
include hv hix

theorem devR_eq (i : S_.Idx) : devR v ix i = ((devBal L : ℝ) : EReal) := by
  refine lsR_eq (fun b d => ?_) i
  rw [mulf_apply, fiR_eq (ceR_eq hix), pgR_eq hv, EReal.coe_mul]
theorem comR_eq (i : S_.Idx) : comR v ix i = ((comBal L : ℝ) : EReal) := by
  refine lsR_eq (fun b d => ?_) i
  rw [mulf_apply, ciR_eq (L := L) (fun b d => by rw [ccR_eq]; exact dcR_eq hix b d), pgR_eq hv, EReal.coe_mul]

end

end Cert.ReferenceIdeal.Gate

end
-- ==== Proof.Algebraic.lean ====
/- The four results of the kernel are the reference's, from finite inputs. -/
module

public import proofs.«01_k».proof.Defs
public import proofs.«01_k».proof.Proof.Finite
public import proofs.«01_k».proof.Proof.Losses
public import proofs.«01_k».proof.Proof.RefLosses
public import proofs.«01_k».proof.Proof.Gen.ReferenceIdeal
public import proofs.«01_k».proof.Proof.Gen.ReferenceIdeal.Run

@[expose] public section

noncomputable section

namespace Cert.ReferenceIdeal.Gate

open Cert.ReferenceIdeal Cert.Gate
open Cert.ReferenceIdeal.Facts₀ Cert.ReferenceIdeal.Facts
open Idealize.ShloMosaic Idealize.SL.Sem

variable (m : (ℓ : Loc nD τ sig) → Buf (Elt Ideal) ℓ)

/-- The scores of a device's arguments, and their selection. -/
def scM (c : Dev nD) : FVec Ideal S32768x8 .f32 := scR (m ((c.tc : Thread nD τ).loc main_arg0)) (m ((c.tc : Thread nD τ).loc main_arg1))
def tkV (c : Dev nD) : FVec Ideal S32768x2 .f32 := (Host.topK S32768x2 1 (FloatOps.cmpfTotal .gt) (scM m c) sliceFits_S32768x8_S32768x2).1
def tkI (c : Dev nD) : IVec S32768x2 32 := (Host.topK S32768x2 1 (FloatOps.cmpfTotal .gt) (scM m c) sliceFits_S32768x8_S32768x2).2

theorem v40_eq (c : Dev nD) : Cert.ReferenceIdeal.Value.res_main_v40 (F := Ideal) m c = devR (scM m c) (tkI m c) := by
  unfold Cert.ReferenceIdeal.Value.res_main_v40; rfl
theorem v77_eq (c : Dev nD) : Cert.ReferenceIdeal.Value.res_main_v77 (F := Ideal) m c = comR (scM m c) (tkI m c) := by
  unfold Cert.ReferenceIdeal.Value.res_main_v77; rfl

/-- The reference's run, its results by name. -/
theorem run_named (ρ : Dev nD → PrngReg) :
    θ_run (defs (F := Ideal)) (onTc (τ := τ) (main (F := Ideal))) ⟨m, fun _ => 0, ρ⟩ (fun r => ∀ c : Dev nD,
      r.2.mem ((c.tc : Thread nD τ).loc main_indices) = tkI m c
      ∧ r.2.mem ((c.tc : Thread nD τ).loc main_values) = tkV m c
      ∧ r.2.mem ((c.tc : Thread nD τ).loc main_v40) = devR (scM m c) (tkI m c)
      ∧ r.2.mem ((c.tc : Thread nD τ).loc main_v77) = comR (scM m c) (tkI m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1, (h c).2.1, (h c).2.2.1.trans (v40_eq m c), (h c).2.2.2.1.trans (v77_eq m c), (h c).2.2.2.2.1, (h c).2.2.2.2.2⟩)
    (Cert.ReferenceIdeal.Value.run (F := Ideal) m ρ)

end Cert.ReferenceIdeal.Gate

namespace Cert.KernelIdeal.Gate

open Cert.KernelIdeal Cert.KernelIdeal.Gen Cert.Gate
open Idealize.ShloMosaic Idealize.SL.Sem

theorem algebraic [Cert.Pre_finite.Facts] : Cert.algebraic_KernelIdeal_ReferenceIdeal_pre_finite := by
  intro m g m' g' hpre harg
  refine ⟨fun c => W5 m c (dr main_v4), fun c => W5 m c (dr main_v5), fun c => W5 m c (dr main_v6), fun c => W5 m c (dr main_v7), ?_, ?_⟩
  · exact (θ_run defs _ _).mono (fun _ h c => ⟨h.1 c _ (mem_ucr main_v4 rfl), h.1 c _ (mem_ucr main_v5 rfl), h.1 c _ (mem_ucr main_v6 rfl), h.1 c _ (mem_ucr main_v7 rfl),
      (h.1 c _ (mem_ucr main_arg0 rfl)).trans (W5_arg0 m c), (h.1 c _ (mem_ucr main_arg1 rfl)).trans (W5_arg1 m c)⟩) (run_main m g)
  · refine (θ_run Cert.ReferenceIdeal.defs _ _).mono (fun r h c => ?_) (Cert.ReferenceIdeal.Gate.run_named m' g')
    obtain ⟨⟨X, hX⟩, ⟨W, hW⟩⟩ := finite_inputs (hpre c)
    have hv : ∀ n e, Cert.ReferenceIdeal.Gate.scM m' c (ValueIdx.ix2 n e) = ((scr (lgt X W n) e : ℝ) : EReal) := fun n e =>
      Cert.ReferenceIdeal.Gate.scR_eq (fun i => (congrFun (harg c).1 i).trans (hX i)) (fun i => (congrFun (harg c).2 i).trans (hW i)) n e
    have hix := Cert.ReferenceIdeal.Gate.topK_idx hv
    obtain ⟨h0, h1, h2, h3, h4, h5⟩ := h c
    refine ⟨h0.trans (funext fun i => ?_), h1.trans (funext fun i => ?_), h2.trans (funext fun i => ?_), h3.trans (funext fun i => ?_), h4, h5⟩
    · obtain ⟨n, k, rfl⟩ : ∃ n k, i = ValueIdx.ix2 n k := ⟨_, _, ValueIdx.eq_ix2 i⟩
      exact (hix n k).trans (idx_eq m c X W hX hW n k).symm
    · obtain ⟨n, k, rfl⟩ : ∃ n k, i = ValueIdx.ix2 n k := ⟨_, _, ValueIdx.eq_ix2 i⟩
      exact (Cert.ReferenceIdeal.Gate.topK_val hv n k).trans (val_eq m c X W hX hW n k).symm
    · exact (Cert.ReferenceIdeal.Gate.devR_eq hv hix i).trans (dev_eq m c X W hX hW i).symm
    · exact (Cert.ReferenceIdeal.Gate.comR_eq hv hix i).trans (com_eq m c X W hX hW i).symm

end Cert.KernelIdeal.Gate

end
-- ==== Proof.lean ====
/- The claim: the frames of the kernel as printed and as idealized, from one run at any float carrier (Proof/Run.lean,
   Proof/Frames.lean); the reference's frame; the named mask constant; and the equality of the four results from finite
   inputs (Proof/Algebraic.lean). -/
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite

@[expose] public section

noncomputable section

namespace Cert.Proof

open Idealize.ShloMosaic Idealize.SL.Sem

/-- The reference's run, its arguments unchanged; it has no semaphore. -/
theorem frameReference : Cert.quiescent_ReferenceIdeal := fun m ρ _ =>
  (θ_run Cert.ReferenceIdeal.defs _ _).mono
    (fun r h => ⟨fun c => ⟨(h c).2.2.2.2.1, (h c).2.2.2.2.2⟩, sem_eq_zero_of_no_sems (by decide) r.2⟩)
    (Cert.ReferenceIdeal.Value.run (F := Ideal) m ρ)

theorem frameReferenceFinite : Cert.quiescent_ReferenceIdeal_pre_finite := fun m ρ _ => frameReference m ρ trivial

theorem frameIdealFinite : Cert.quiescent_KernelIdeal_pre_finite := fun m ρ _ => Cert.KernelIdeal.Gate.frameIdeal m ρ trivial

theorem preserves : Cert.preserves_Kernel_KernelIdeal := IdealRules.named_const.statement _ _ _ _ _ rfl

theorem claim : Cert.Claim := ⟨Cert.Kernel.Gen.facts, Cert.KernelIdeal.Gen.facts, Cert.ReferenceIdeal.Gen.facts, Cert.Pre_finite.Gen.facts,
  Cert.KernelIdeal.Gate.frameKernel, Cert.KernelIdeal.Gate.frameIdeal, frameIdealFinite, frameReference, frameReferenceFinite, preserves,
  Cert.KernelIdeal.Gate.algebraic⟩

end Cert.Proof

end
